-- ==== Defs.lean ====
def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Dil0 (m : (ℓ : Loc Cert.Dil0.nD Cert.Dil0.τ Cert.Dil0.sig) → Buf (Elt Bits) ℓ) : Prop :=
  True

def Pre_Dil0Ideal (m : (ℓ : Loc Cert.Dil0Ideal.nD Cert.Dil0Ideal.τ Cert.Dil0Ideal.sig) → Buf (Elt Ideal) ℓ) : Prop :=
  True

def Pre_Dil0RefIdeal (m : (ℓ : Loc Cert.Dil0RefIdeal.nD Cert.Dil0RefIdeal.τ Cert.Dil0RefIdeal.sig) → Buf (Elt Ideal) ℓ) : Prop :=
  True

def Pre_Dil1 (m : (ℓ : Loc Cert.Dil1.nD Cert.Dil1.τ Cert.Dil1.sig) → Buf (Elt Bits) ℓ) : Prop :=
  True

def Pre_Dil1Ideal (m : (ℓ : Loc Cert.Dil1Ideal.nD Cert.Dil1Ideal.τ Cert.Dil1Ideal.sig) → Buf (Elt Ideal) ℓ) : Prop :=
  True

def Pre_Dil1RefIdeal (m : (ℓ : Loc Cert.Dil1RefIdeal.nD Cert.Dil1RefIdeal.τ Cert.Dil1RefIdeal.sig) → Buf (Elt Ideal) ℓ) : Prop :=
  True

def Pre_Dil2 (m : (ℓ : Loc Cert.Dil2.nD Cert.Dil2.τ Cert.Dil2.sig) → Buf (Elt Bits) ℓ) : Prop :=
  True

def Pre_Dil2Ideal (m : (ℓ : Loc Cert.Dil2Ideal.nD Cert.Dil2Ideal.τ Cert.Dil2Ideal.sig) → Buf (Elt Ideal) ℓ) : Prop :=
  True

def Pre_Dil2RefIdeal (m : (ℓ : Loc Cert.Dil2RefIdeal.nD Cert.Dil2RefIdeal.τ Cert.Dil2RefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Streams (m : (ℓ : Loc Cert.Streams.nD Cert.Streams.τ Cert.Streams.sig) → Buf (Elt Bits) ℓ) : Prop :=
  True

def Pre_StreamsIdeal (m : (ℓ : Loc Cert.StreamsIdeal.nD Cert.StreamsIdeal.τ Cert.StreamsIdeal.sig) → Buf (Elt Ideal) ℓ) : Prop :=
  True

def Pre_StreamsRefIdeal (m : (ℓ : Loc Cert.StreamsRefIdeal.nD Cert.StreamsRefIdeal.τ Cert.StreamsRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4)
      ∧ r.2.mem ((c.tc : Thread Cert.PoolRefIdeal.nD Cert.PoolRefIdeal.τ).loc Cert.PoolRefIdeal.main_arg5) = m ((c.tc : Thread Cert.PoolRefIdeal.nD Cert.PoolRefIdeal.τ).loc Cert.PoolRefIdeal.main_arg5)
      ∧ r.2.mem ((c.tc : Thread Cert.PoolRefIdeal.nD Cert.PoolRefIdeal.τ).loc Cert.PoolRefIdeal.main_arg6) = m ((c.tc : Thread Cert.PoolRefIdeal.nD Cert.PoolRefIdeal.τ).loc Cert.PoolRefIdeal.main_arg6))
      ∧ r.2.sem = fun _ => 0)

def quiescent_Dil0 [hDil0 : Cert.Dil0.Facts] : Prop :=
  ∀ (m : (ℓ : Loc Cert.Dil0.nD Cert.Dil0.τ Cert.Dil0.sig) → Buf (Elt Bits) ℓ) (g : Dev Cert.Dil0.nD → PrngReg), Pre_Dil0 m →
    θ_run (Cert.Dil0.defs (F := Bits)) (onTc (τ := Cert.Dil0.τ) (Cert.Dil0.main (F := Bits))) ⟨m, fun _ => 0, g⟩ (fun r => (∀ c : Dev Cert.Dil0.nD,
      r.2.mem ((c.tc : Thread Cert.Dil0.nD Cert.Dil0.τ).loc Cert.Dil0.main_arg0) = m ((c.tc : Thread Cert.Dil0.nD Cert.Dil0.τ).loc Cert.Dil0.main_arg0)
      ∧ r.2.mem ((c.tc : Thread Cert.Dil0.nD Cert.Dil0.τ).loc Cert.Dil0.main_arg1) = m ((c.tc : Thread Cert.Dil0.nD Cert.Dil0.τ).loc Cert.Dil0.main_arg1))
      ∧ r.2.sem = fun _ => 0)

def quiescent_Dil0Ideal [hDil0Ideal : Cert.Dil0Ideal.Facts] : Prop :=
  ∀ (m : (ℓ : Loc Cert.Dil0Ideal.nD Cert.Dil0Ideal.τ Cert.Dil0Ideal.sig) → Buf (Elt Ideal) ℓ) (g : Dev Cert.Dil0Ideal.nD → PrngReg), Pre_Dil0Ideal m →
    θ_run (Cert.Dil0Ideal.defs (F := Ideal)) (onTc (τ := Cert.Dil0Ideal.τ) (Cert.Dil0Ideal.main (F := Ideal))) ⟨m, fun _ => 0, g⟩ (fun r => (∀ c : Dev Cert.Dil0Ideal.nD,
      r.2.mem ((c.tc : Thread Cert.Dil0Ideal.nD Cert.Dil0Ideal.τ).loc Cert.Dil0Ideal.main_arg0) = m ((c.tc : Thread Cert.Dil0Ideal.nD Cert.Dil0Ideal.τ).loc Cert.Dil0Ideal.main_arg0)
      ∧ r.2.mem ((c.tc : Thread Cert.Dil0Ideal.nD Cert.Dil0Ideal.τ).loc Cert.Dil0Ideal.main_arg1) = m ((c.tc : Thread Cert.Dil0Ideal.nD Cert.Dil0Ideal.τ).loc Cert.Dil0Ideal.main_arg1))
      ∧ r.2.sem = fun _ => 0)

def quiescent_Dil0RefIdeal [hDil0RefIdeal : Cert.Dil0RefIdeal.Facts] : Prop :=
  ∀ (m : (ℓ : Loc Cert.Dil0RefIdeal.nD Cert.Dil0RefIdeal.τ Cert.Dil0RefIdeal.sig) → Buf (Elt Ideal) ℓ) (g : Dev Cert.Dil0RefIdeal.nD → PrngReg), Pre_Dil0RefIdeal m →
    θ_run (Cert.Dil0RefIdeal.defs (F := Ideal)) (onTc (τ := Cert.Dil0RefIdeal.τ) (Cert.Dil0RefIdeal.main (F := Ideal))) ⟨m, fun _ => 0, g⟩ (fun r => (∀ c : Dev Cert.Dil0RefIdeal.nD,
      r.2.mem ((c.tc : Thread Cert.Dil0RefIdeal.nD Cert.Dil0RefIdeal.τ).loc Cert.Dil0RefIdeal.main_arg0) = m ((c.tc : Thread Cert.Dil0RefIdeal.nD Cert.Dil0RefIdeal.τ).loc Cert.Dil0RefIdeal.main_arg0)
      ∧ r.2.mem ((c.tc : Thread Cert.Dil0RefIdeal.nD Cert.Dil0RefIdeal.τ).loc Cert.Dil0RefIdeal.main_arg1) = m ((c.tc : Thread Cert.Dil0RefIdeal.nD Cert.Dil0RefIdeal.τ).loc Cert.Dil0RefIdeal.main_arg1))
      ∧ r.2.sem = fun _ => 0)

def quiescent_Dil1 [hDil1 : Cert.Dil1.Facts] : Prop :=
  ∀ (m : (ℓ : Loc Cert.Dil1.nD Cert.Dil1.τ Cert.Dil1.sig) → Buf (Elt Bits) ℓ) (g : Dev Cert.Dil1.nD → PrngReg), Pre_Dil1 m →
    θ_run (Cert.Dil1.defs (F := Bits)) (onTc (τ := Cert.Dil1.τ) (Cert.Dil1.main (F := Bits))) ⟨m, fun _ => 0, g⟩ (fun r => (∀ c : Dev Cert.Dil1.nD,
      r.2.mem ((c.tc : Thread Cert.Dil1.nD Cert.Dil1.τ).loc Cert.Dil1.main_arg0) = m ((c.tc : Thread Cert.Dil1.nD Cert.Dil1.τ).loc Cert.Dil1.main_arg0)
      ∧ r.2.mem ((c.tc : Thread Cert.Dil1.nD Cert.Dil1.τ).loc Cert.Dil1.main_arg1) = m ((c.tc : Thread Cert.Dil1.nD Cert.Dil1.τ).loc Cert.Dil1.main_arg1))
      ∧ r.2.sem = fun _ => 0)

def quiescent_Dil1Ideal [hDil1Ideal : Cert.Dil1Ideal.Facts] : Prop :=
  ∀ (m : (ℓ : Loc Cert.Dil1Ideal.nD Cert.Dil1Ideal.τ Cert.Dil1Ideal.sig) → Buf (Elt Ideal) ℓ) (g : Dev Cert.Dil1Ideal.nD → PrngReg), Pre_Dil1Ideal m →
    θ_run (Cert.Dil1Ideal.defs (F := Ideal)) (onTc (τ := Cert.Dil1Ideal.τ) (Cert.Dil1Ideal.main (F := Ideal))) ⟨m, fun _ => 0, g⟩ (fun r => (∀ c : Dev Cert.Dil1Ideal.nD,
      r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
      ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1))
      ∧ r.2.sem = fun _ => 0)

def quiescent_Dil1RefIdeal [hDil1RefIdeal : Cert.Dil1RefIdeal.Facts] : Prop :=
  ∀ (m : (ℓ : Loc Cert.Dil1RefIdeal.nD Cert.Dil1RefIdeal.τ Cert.Dil1RefIdeal.sig) → Buf (Elt Ideal) ℓ) (g : Dev Cert.Dil1RefIdeal.nD → PrngReg), Pre_Dil1RefIdeal m →
    θ_run (Cert.Dil1RefIdeal.defs (F := Ideal)) (onTc (τ := Cert.Dil1RefIdeal.τ) (Cert.Dil1RefIdeal.main (F := Ideal))) ⟨m, fun _ => 0, g⟩ (fun r => (∀ c : Dev Cert.Dil1RefIdeal.nD,
      r.2.mem ((c.tc : Thread Cert.Dil1RefIdeal.nD Cert.Dil1RefIdeal.τ).loc Cert.Dil1RefIdeal.main_arg0) = m ((c.tc : Thread Cert.Dil1RefIdeal.nD Cert.Dil1RefIdeal.τ).loc Cert.Dil1RefIdeal.main_arg0)
      ∧ r.2.mem ((c.tc : Thread Cert.Dil1RefIdeal.nD Cert.Dil1RefIdeal.τ).loc Cert.Dil1RefIdeal.main_arg1) = m ((c.tc : Thread Cert.Dil1RefIdeal.nD Cert.Dil1RefIdeal.τ).loc Cert.Dil1RefIdeal.main_arg1))
      ∧ r.2.sem = fun _ => 0)

def quiescent_Dil2 [hDil2 : Cert.Dil2.Facts] : Prop :=
  ∀ (m : (ℓ : Loc Cert.Dil2.nD Cert.Dil2.τ Cert.Dil2.sig) → Buf (Elt Bits) ℓ) (g : Dev Cert.Dil2.nD → PrngReg), Pre_Dil2 m →
    θ_run (Cert.Dil2.defs (F := Bits)) (onTc (τ := Cert.Dil2.τ) (Cert.Dil2.main (F := Bits))) ⟨m, fun _ => 0, g⟩ (fun r => (∀ c : Dev Cert.Dil2.nD,
      r.2.mem ((c.tc : Thread Cert.Dil2.nD Cert.Dil2.τ).loc Cert.Dil2.main_arg0) = m ((c.tc : Thread Cert.Dil2.nD Cert.Dil2.τ).loc Cert.Dil2.main_arg0)
      ∧ r.2.mem ((c.tc : Thread Cert.Dil2.nD Cert.Dil2.τ).loc Cert.Dil2.main_arg1) = m ((c.tc : Thread Cert.Dil2.nD Cert.Dil2.τ).loc Cert.Dil2.main_arg1))
      ∧ r.2.sem = fun _ => 0)

def quiescent_Dil2Ideal [hDil2Ideal : Cert.Dil2Ideal.Facts] : Prop :=
  ∀ (m : (ℓ : Loc Cert.Dil2Ideal.nD Cert.Dil2Ideal.τ Cert.Dil2Ideal.sig) → Buf (Elt Ideal) ℓ) (g : Dev Cert.Dil2Ideal.nD → PrngReg), Pre_Dil2Ideal m →
    θ_run (Cert.Dil2Ideal.defs (F := Ideal)) (onTc (τ := Cert.Dil2Ideal.τ) (Cert.Dil2Ideal.main (F := Ideal))) ⟨m, fun _ => 0, g⟩ (fun r => (∀ c : Dev Cert.Dil2Ideal.nD,
      r.2.mem ((c.tc : Thread Cert.Dil2Ideal.nD Cert.Dil2Ideal.τ).loc Cert.Dil2Ideal.main_arg0) = m ((c.tc : Thread Cert.Dil2Ideal.nD Cert.Dil2Ideal.τ).loc Cert.Dil2Ideal.main_arg0)
      ∧ r.2.mem ((c.tc : Thread Cert.Dil2Ideal.nD Cert.Dil2Ideal.τ).loc Cert.Dil2Ideal.main_arg1) = m ((c.tc : Thread Cert.Dil2Ideal.nD Cert.Dil2Ideal.τ).loc Cert.Dil2Ideal.main_arg1))
      ∧ r.2.sem = fun _ => 0)

def quiescent_Dil2RefIdeal [hDil2RefIdeal : Cert.Dil2RefIdeal.Facts] : Prop :=
  ∀ (m : (ℓ : Loc Cert.Dil2RefIdeal.nD Cert.Dil2RefIdeal.τ Cert.Dil2RefIdeal.sig) → Buf (Elt Ideal) ℓ) (g : Dev Cert.Dil2RefIdeal.nD → PrngReg), Pre_Dil2RefIdeal m →
    θ_run (Cert.Dil2RefIdeal.defs (F := Ideal)) (onTc (τ := Cert.Dil2RefIdeal.τ) (Cert.Dil2RefIdeal.main (F := Ideal))) ⟨m, fun _ => 0, g⟩ (fun r => (∀ c : Dev Cert.Dil2RefIdeal.nD,
      r.2.mem ((c.tc : Thread Cert.Dil2RefIdeal.nD Cert.Dil2RefIdeal.τ).loc Cert.Dil2RefIdeal.main_arg0) = m ((c.tc : Thread Cert.Dil2RefIdeal.nD Cert.Dil2RefIdeal.τ).loc Cert.Dil2RefIdeal.main_arg0)
      ∧ r.2.mem ((c.tc : Thread Cert.Dil2RefIdeal.nD Cert.Dil2RefIdeal.τ).loc Cert.Dil2RefIdeal.main_arg1) = m ((c.tc : Thread Cert.Dil2RefIdeal.nD Cert.Dil2RefIdeal.τ).loc Cert.Dil2RefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Streams [hStreams : Cert.Streams.Facts] : Prop :=
  ∀ (m : (ℓ : Loc Cert.Streams.nD Cert.Streams.τ Cert.Streams.sig) → Buf (Elt Bits) ℓ) (g : Dev Cert.Streams.nD → PrngReg), Pre_Streams m →
    θ_run (Cert.Streams.defs (F := Bits)) (onTc (τ := Cert.Streams.τ) (Cert.Streams.main (F := Bits))) ⟨m, fun _ => 0, g⟩ (fun r => (∀ c : Dev Cert.Streams.nD,
      r.2.mem ((c.tc : Thread Cert.Streams.nD Cert.Streams.τ).loc Cert.Streams.main_arg0) = m ((c.tc : Thread Cert.Streams.nD Cert.Streams.τ).loc Cert.Streams.main_arg0)
      ∧ r.2.mem ((c.tc : Thread Cert.Streams.nD Cert.Streams.τ).loc Cert.Streams.main_arg1) = m ((c.tc : Thread Cert.Streams.nD Cert.Streams.τ).loc Cert.Streams.main_arg1))
      ∧ r.2.sem = fun _ => 0)

def quiescent_StreamsIdeal [hStreamsIdeal : Cert.StreamsIdeal.Facts] : Prop :=
  ∀ (m : (ℓ : Loc Cert.StreamsIdeal.nD Cert.StreamsIdeal.τ Cert.StreamsIdeal.sig) → Buf (Elt Ideal) ℓ) (g : Dev Cert.StreamsIdeal.nD → PrngReg), Pre_StreamsIdeal m →
    θ_run (Cert.StreamsIdeal.defs (F := Ideal)) (onTc (τ := Cert.StreamsIdeal.τ) (Cert.StreamsIdeal.main (F := Ideal))) ⟨m, fun _ => 0, g⟩ (fun r => (∀ c : Dev Cert.StreamsIdeal.nD,
      r.2.mem ((c.tc : Thread Cert.StreamsIdeal.nD Cert.StreamsIdeal.τ).loc Cert.StreamsIdeal.main_arg0) = m ((c.tc : Thread Cert.StreamsIdeal.nD Cert.StreamsIdeal.τ).loc Cert.StreamsIdeal.main_arg0)
      ∧ r.2.mem ((c.tc : Thread Cert.StreamsIdeal.nD Cert.StreamsIdeal.τ).loc Cert.StreamsIdeal.main_arg1) = m ((c.tc : Thread Cert.StreamsIdeal.nD Cert.StreamsIdeal.τ).loc Cert.StreamsIdeal.main_arg1))
      ∧ r.2.sem = fun _ => 0)

def quiescent_StreamsRefIdeal [hStreamsRefIdeal : Cert.StreamsRefIdeal.Facts] : Prop :=
  ∀ (m : (ℓ : Loc Cert.StreamsRefIdeal.nD Cert.StreamsRefIdeal.τ Cert.StreamsRefIdeal.sig) → Buf (Elt Ideal) ℓ) (g : Dev Cert.StreamsRefIdeal.nD → PrngReg), Pre_StreamsRefIdeal m →
    θ_run (Cert.StreamsRefIdeal.defs (F := Ideal)) (onTc (τ := Cert.StreamsRefIdeal.τ) (Cert.StreamsRefIdeal.main (F := Ideal))) ⟨m, fun _ => 0, g⟩ (fun r => (∀ c : Dev Cert.StreamsRefIdeal.nD,
      r.2.mem ((c.tc : Thread Cert.StreamsRefIdeal.nD Cert.StreamsRefIdeal.τ).loc Cert.StreamsRefIdeal.main_arg0) = m ((c.tc : Thread Cert.StreamsRefIdeal.nD Cert.StreamsRefIdeal.τ).loc Cert.StreamsRefIdeal.main_arg0)
      ∧ r.2.mem ((c.tc : Thread Cert.StreamsRefIdeal.nD Cert.StreamsRefIdeal.τ).loc Cert.StreamsRefIdeal.main_arg1) = m ((c.tc : Thread Cert.StreamsRefIdeal.nD Cert.StreamsRefIdeal.τ).loc Cert.StreamsRefIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6))
      ∧ r.2.sem = fun _ => 0)

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)
      ∧ m' ((c.tc : Thread Cert.PoolRefIdeal.nD Cert.PoolRefIdeal.τ).loc Cert.PoolRefIdeal.main_arg5) = m ((c.tc : Thread Cert.PoolIdeal.nD Cert.PoolIdeal.τ).loc Cert.PoolIdeal.main_arg5)
      ∧ m' ((c.tc : Thread Cert.PoolRefIdeal.nD Cert.PoolRefIdeal.τ).loc Cert.PoolRefIdeal.main_arg6) = m ((c.tc : Thread Cert.PoolIdeal.nD Cert.PoolIdeal.τ).loc Cert.PoolIdeal.main_arg6)) →
    ∃ (v0 : (c : Dev Cert.PoolIdeal.nD) → Buf (Elt Ideal) ((c.tc : Thread Cert.PoolIdeal.nD Cert.PoolIdeal.τ).loc Cert.PoolIdeal.main_v16)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v16) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v104) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4)
          ∧ r.2.mem ((c.tc : Thread Cert.PoolRefIdeal.nD Cert.PoolRefIdeal.τ).loc Cert.PoolRefIdeal.main_arg5) = m' ((c.tc : Thread Cert.PoolRefIdeal.nD Cert.PoolRefIdeal.τ).loc Cert.PoolRefIdeal.main_arg5)
          ∧ r.2.mem ((c.tc : Thread Cert.PoolRefIdeal.nD Cert.PoolRefIdeal.τ).loc Cert.PoolRefIdeal.main_arg6) = m' ((c.tc : Thread Cert.PoolRefIdeal.nD Cert.PoolRefIdeal.τ).loc Cert.PoolRefIdeal.main_arg6))

def preserves_Dil0_Dil0Ideal : Prop :=
  True

def algebraic_Dil0Ideal_Dil0RefIdeal [hDil0Ideal : Cert.Dil0Ideal.Facts] [hDil0RefIdeal : Cert.Dil0RefIdeal.Facts] : Prop :=
  ∀ (m : (ℓ : Loc Cert.Dil0Ideal.nD Cert.Dil0Ideal.τ Cert.Dil0Ideal.sig) → Buf (Elt Ideal) ℓ) (g : Dev Cert.Dil0Ideal.nD → PrngReg)
    (m' : (ℓ : Loc Cert.Dil0RefIdeal.nD Cert.Dil0RefIdeal.τ Cert.Dil0RefIdeal.sig) → Buf (Elt Ideal) ℓ) (g' : Dev Cert.Dil0RefIdeal.nD → PrngReg), Pre_Dil0Ideal m →
    (∀ c : Dev Cert.Dil0Ideal.nD,
      m' ((c.tc : Thread Cert.Dil0RefIdeal.nD Cert.Dil0RefIdeal.τ).loc Cert.Dil0RefIdeal.main_arg0) = m ((c.tc : Thread Cert.Dil0Ideal.nD Cert.Dil0Ideal.τ).loc Cert.Dil0Ideal.main_arg0)
      ∧ m' ((c.tc : Thread Cert.Dil0RefIdeal.nD Cert.Dil0RefIdeal.τ).loc Cert.Dil0RefIdeal.main_arg1) = m ((c.tc : Thread Cert.Dil0Ideal.nD Cert.Dil0Ideal.τ).loc Cert.Dil0Ideal.main_arg1)) →
    ∃ (v0 : (c : Dev Cert.Dil0Ideal.nD) → Buf (Elt Ideal) ((c.tc : Thread Cert.Dil0Ideal.nD Cert.Dil0Ideal.τ).loc Cert.Dil0Ideal.main_v16)),
      θ_run (Cert.Dil0Ideal.defs (F := Ideal)) (onTc (τ := Cert.Dil0Ideal.τ) (Cert.Dil0Ideal.main (F := Ideal))) ⟨m, fun _ => 0, g⟩ (fun r => ∀ c : Dev Cert.Dil0Ideal.nD,
          r.2.mem ((c.tc : Thread Cert.Dil0Ideal.nD Cert.Dil0Ideal.τ).loc Cert.Dil0Ideal.main_v16) = v0 c
          ∧ r.2.mem ((c.tc : Thread Cert.Dil0Ideal.nD Cert.Dil0Ideal.τ).loc Cert.Dil0Ideal.main_arg0) = m ((c.tc : Thread Cert.Dil0Ideal.nD Cert.Dil0Ideal.τ).loc Cert.Dil0Ideal.main_arg0)
          ∧ r.2.mem ((c.tc : Thread Cert.Dil0Ideal.nD Cert.Dil0Ideal.τ).loc Cert.Dil0Ideal.main_arg1) = m ((c.tc : Thread Cert.Dil0Ideal.nD Cert.Dil0Ideal.τ).loc Cert.Dil0Ideal.main_arg1))
      ∧ θ_run (Cert.Dil0RefIdeal.defs (F := Ideal)) (onTc (τ := Cert.Dil0RefIdeal.τ) (Cert.Dil0RefIdeal.main (F := Ideal))) ⟨m', fun _ => 0, g'⟩ (fun r => ∀ c : Dev Cert.Dil0RefIdeal.nD,
          r.2.mem ((c.tc : Thread Cert.Dil0RefIdeal.nD Cert.Dil0RefIdeal.τ).loc Cert.Dil0RefIdeal.main_v14) = v0 c
          ∧ r.2.mem ((c.tc : Thread Cert.Dil0RefIdeal.nD Cert.Dil0RefIdeal.τ).loc Cert.Dil0RefIdeal.main_arg0) = m' ((c.tc : Thread Cert.Dil0RefIdeal.nD Cert.Dil0RefIdeal.τ).loc Cert.Dil0RefIdeal.main_arg0)
          ∧ r.2.mem ((c.tc : Thread Cert.Dil0RefIdeal.nD Cert.Dil0RefIdeal.τ).loc Cert.Dil0RefIdeal.main_arg1) = m' ((c.tc : Thread Cert.Dil0RefIdeal.nD Cert.Dil0RefIdeal.τ).loc Cert.Dil0RefIdeal.main_arg1))

def preserves_Dil1_Dil1Ideal : Prop :=
  True

def algebraic_Dil1Ideal_Dil1RefIdeal [hDil1Ideal : Cert.Dil1Ideal.Facts] [hDil1RefIdeal : Cert.Dil1RefIdeal.Facts] : Prop :=
  ∀ (m : (ℓ : Loc Cert.Dil1Ideal.nD Cert.Dil1Ideal.τ Cert.Dil1Ideal.sig) → Buf (Elt Ideal) ℓ) (g : Dev Cert.Dil1Ideal.nD → PrngReg)
    (m' : (ℓ : Loc Cert.Dil1RefIdeal.nD Cert.Dil1RefIdeal.τ Cert.Dil1RefIdeal.sig) → Buf (Elt Ideal) ℓ) (g' : Dev Cert.Dil1RefIdeal.nD → PrngReg), Pre_Dil1Ideal m →
    (∀ c : Dev Cert.Dil1Ideal.nD,
      m' ((c.tc : Thread Cert.Dil1RefIdeal.nD Cert.Dil1RefIdeal.τ).loc Cert.Dil1RefIdeal.main_arg0) = m ((c.tc : Thread Cert.Dil1Ideal.nD Cert.Dil1Ideal.τ).loc Cert.Dil1Ideal.main_arg0)
      ∧ m' ((c.tc : Thread Cert.Dil1RefIdeal.nD Cert.Dil1RefIdeal.τ).loc Cert.Dil1RefIdeal.main_arg1) = m ((c.tc : Thread Cert.Dil1Ideal.nD Cert.Dil1Ideal.τ).loc Cert.Dil1Ideal.main_arg1)) →
    ∃ (v0 : (c : Dev Cert.Dil1Ideal.nD) → Buf (Elt Ideal) ((c.tc : Thread Cert.Dil1Ideal.nD Cert.Dil1Ideal.τ).loc Cert.Dil1Ideal.main_v16)),
      θ_run (Cert.Dil1Ideal.defs (F := Ideal)) (onTc (τ := Cert.Dil1Ideal.τ) (Cert.Dil1Ideal.main (F := Ideal))) ⟨m, fun _ => 0, g⟩ (fun r => ∀ c : Dev Cert.Dil1Ideal.nD,
          r.2.mem ((c.tc : Thread Cert.Dil1Ideal.nD Cert.Dil1Ideal.τ).loc Cert.Dil1Ideal.main_v16) = v0 c
          ∧ r.2.mem ((c.tc : Thread Cert.Dil1Ideal.nD Cert.Dil1Ideal.τ).loc Cert.Dil1Ideal.main_arg0) = m ((c.tc : Thread Cert.Dil1Ideal.nD Cert.Dil1Ideal.τ).loc Cert.Dil1Ideal.main_arg0)
          ∧ r.2.mem ((c.tc : Thread Cert.Dil1Ideal.nD Cert.Dil1Ideal.τ).loc Cert.Dil1Ideal.main_arg1) = m ((c.tc : Thread Cert.Dil1Ideal.nD Cert.Dil1Ideal.τ).loc Cert.Dil1Ideal.main_arg1))
      ∧ θ_run (Cert.Dil1RefIdeal.defs (F := Ideal)) (onTc (τ := Cert.Dil1RefIdeal.τ) (Cert.Dil1RefIdeal.main (F := Ideal))) ⟨m', fun _ => 0, g'⟩ (fun r => ∀ c : Dev Cert.Dil1RefIdeal.nD,
          r.2.mem ((c.tc : Thread Cert.Dil1RefIdeal.nD Cert.Dil1RefIdeal.τ).loc Cert.Dil1RefIdeal.main_v12) = v0 c
          ∧ r.2.mem ((c.tc : Thread Cert.Dil1RefIdeal.nD Cert.Dil1RefIdeal.τ).loc Cert.Dil1RefIdeal.main_arg0) = m' ((c.tc : Thread Cert.Dil1RefIdeal.nD Cert.Dil1RefIdeal.τ).loc Cert.Dil1RefIdeal.main_arg0)
          ∧ r.2.mem ((c.tc : Thread Cert.Dil1RefIdeal.nD Cert.Dil1RefIdeal.τ).loc Cert.Dil1RefIdeal.main_arg1) = m' ((c.tc : Thread Cert.Dil1RefIdeal.nD Cert.Dil1RefIdeal.τ).loc Cert.Dil1RefIdeal.main_arg1))

def preserves_Dil2_Dil2Ideal : Prop :=
  True

def algebraic_Dil2Ideal_Dil2RefIdeal [hDil2Ideal : Cert.Dil2Ideal.Facts] [hDil2RefIdeal : Cert.Dil2RefIdeal.Facts] : Prop :=
  ∀ (m : (ℓ : Loc Cert.Dil2Ideal.nD Cert.Dil2Ideal.τ Cert.Dil2Ideal.sig) → Buf (Elt Ideal) ℓ) (g : Dev Cert.Dil2Ideal.nD → PrngReg)
    (m' : (ℓ : Loc Cert.Dil2RefIdeal.nD Cert.Dil2RefIdeal.τ Cert.Dil2RefIdeal.sig) → Buf (Elt Ideal) ℓ) (g' : Dev Cert.Dil2RefIdeal.nD → PrngReg), Pre_Dil2Ideal m →
    (∀ c : Dev Cert.Dil2Ideal.nD,
      m' ((c.tc : Thread Cert.Dil2RefIdeal.nD Cert.Dil2RefIdeal.τ).loc Cert.Dil2RefIdeal.main_arg0) = m ((c.tc : Thread Cert.Dil2Ideal.nD Cert.Dil2Ideal.τ).loc Cert.Dil2Ideal.main_arg0)
      ∧ m' ((c.tc : Thread Cert.Dil2RefIdeal.nD Cert.Dil2RefIdeal.τ).loc Cert.Dil2RefIdeal.main_arg1) = m ((c.tc : Thread Cert.Dil2Ideal.nD Cert.Dil2Ideal.τ).loc Cert.Dil2Ideal.main_arg1)) →
    ∃ (v0 : (c : Dev Cert.Dil2Ideal.nD) → Buf (Elt Ideal) ((c.tc : Thread Cert.Dil2Ideal.nD Cert.Dil2Ideal.τ).loc Cert.Dil2Ideal.main_v16)),
      θ_run (Cert.Dil2Ideal.defs (F := Ideal)) (onTc (τ := Cert.Dil2Ideal.τ) (Cert.Dil2Ideal.main (F := Ideal))) ⟨m, fun _ => 0, g⟩ (fun r => ∀ c : Dev Cert.Dil2Ideal.nD,
          r.2.mem ((c.tc : Thread Cert.Dil2Ideal.nD Cert.Dil2Ideal.τ).loc Cert.Dil2Ideal.main_v16) = v0 c
          ∧ r.2.mem ((c.tc : Thread Cert.Dil2Ideal.nD Cert.Dil2Ideal.τ).loc Cert.Dil2Ideal.main_arg0) = m ((c.tc : Thread Cert.Dil2Ideal.nD Cert.Dil2Ideal.τ).loc Cert.Dil2Ideal.main_arg0)
          ∧ r.2.mem ((c.tc : Thread Cert.Dil2Ideal.nD Cert.Dil2Ideal.τ).loc Cert.Dil2Ideal.main_arg1) = m ((c.tc : Thread Cert.Dil2Ideal.nD Cert.Dil2Ideal.τ).loc Cert.Dil2Ideal.main_arg1))
      ∧ θ_run (Cert.Dil2RefIdeal.defs (F := Ideal)) (onTc (τ := Cert.Dil2RefIdeal.τ) (Cert.Dil2RefIdeal.main (F := Ideal))) ⟨m', fun _ => 0, g'⟩ (fun r => ∀ c : Dev Cert.Dil2RefIdeal.nD,
          r.2.mem ((c.tc : Thread Cert.Dil2RefIdeal.nD Cert.Dil2RefIdeal.τ).loc Cert.Dil2RefIdeal.main_v12) = v0 c
          ∧ r.2.mem ((c.tc : Thread Cert.Dil2RefIdeal.nD Cert.Dil2RefIdeal.τ).loc Cert.Dil2RefIdeal.main_arg0) = m' ((c.tc : Thread Cert.Dil2RefIdeal.nD Cert.Dil2RefIdeal.τ).loc Cert.Dil2RefIdeal.main_arg0)
          ∧ r.2.mem ((c.tc : Thread Cert.Dil2RefIdeal.nD Cert.Dil2RefIdeal.τ).loc Cert.Dil2RefIdeal.main_arg1) = m' ((c.tc : Thread Cert.Dil2RefIdeal.nD Cert.Dil2RefIdeal.τ).loc Cert.Dil2RefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v13)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v13) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v25) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Streams_StreamsIdeal : Prop :=
  True

def algebraic_StreamsIdeal_StreamsRefIdeal [hStreamsIdeal : Cert.StreamsIdeal.Facts] [hStreamsRefIdeal : Cert.StreamsRefIdeal.Facts] : Prop :=
  ∀ (m : (ℓ : Loc Cert.StreamsIdeal.nD Cert.StreamsIdeal.τ Cert.StreamsIdeal.sig) → Buf (Elt Ideal) ℓ) (g : Dev Cert.StreamsIdeal.nD → PrngReg)
    (m' : (ℓ : Loc Cert.StreamsRefIdeal.nD Cert.StreamsRefIdeal.τ Cert.StreamsRefIdeal.sig) → Buf (Elt Ideal) ℓ) (g' : Dev Cert.StreamsRefIdeal.nD → PrngReg), Pre_StreamsIdeal m →
    (∀ c : Dev Cert.StreamsIdeal.nD,
      m' ((c.tc : Thread Cert.StreamsRefIdeal.nD Cert.StreamsRefIdeal.τ).loc Cert.StreamsRefIdeal.main_arg0) = m ((c.tc : Thread Cert.StreamsIdeal.nD Cert.StreamsIdeal.τ).loc Cert.StreamsIdeal.main_arg0)
      ∧ m' ((c.tc : Thread Cert.StreamsRefIdeal.nD Cert.StreamsRefIdeal.τ).loc Cert.StreamsRefIdeal.main_arg1) = m ((c.tc : Thread Cert.StreamsIdeal.nD Cert.StreamsIdeal.τ).loc Cert.StreamsIdeal.main_arg1)) →
    ∃ (v0 : (c : Dev Cert.StreamsIdeal.nD) → Buf (Elt Ideal) ((c.tc : Thread Cert.StreamsIdeal.nD Cert.StreamsIdeal.τ).loc Cert.StreamsIdeal.main_v3_0)) (v1 : (c : Dev Cert.StreamsIdeal.nD) → Buf (Elt Ideal) ((c.tc : Thread Cert.StreamsIdeal.nD Cert.StreamsIdeal.τ).loc Cert.StreamsIdeal.main_v3_1)) (v2 : (c : Dev Cert.StreamsIdeal.nD) → Buf (Elt Ideal) ((c.tc : Thread Cert.StreamsIdeal.nD Cert.StreamsIdeal.τ).loc Cert.StreamsIdeal.main_v3_2)),
      θ_run (Cert.StreamsIdeal.defs (F := Ideal)) (onTc (τ := Cert.StreamsIdeal.τ) (Cert.StreamsIdeal.main (F := Ideal))) ⟨m, fun _ => 0, g⟩ (fun r => ∀ c : Dev Cert.StreamsIdeal.nD,
          r.2.mem ((c.tc : Thread Cert.StreamsIdeal.nD Cert.StreamsIdeal.τ).loc Cert.StreamsIdeal.main_v3_0) = v0 c
          ∧ r.2.mem ((c.tc : Thread Cert.StreamsIdeal.nD Cert.StreamsIdeal.τ).loc Cert.StreamsIdeal.main_v3_1) = v1 c
          ∧ r.2.mem ((c.tc : Thread Cert.StreamsIdeal.nD Cert.StreamsIdeal.τ).loc Cert.StreamsIdeal.main_v3_2) = v2 c
          ∧ r.2.mem ((c.tc : Thread Cert.StreamsIdeal.nD Cert.StreamsIdeal.τ).loc Cert.StreamsIdeal.main_arg0) = m ((c.tc : Thread Cert.StreamsIdeal.nD Cert.StreamsIdeal.τ).loc Cert.StreamsIdeal.main_arg0)
          ∧ r.2.mem ((c.tc : Thread Cert.StreamsIdeal.nD Cert.StreamsIdeal.τ).loc Cert.StreamsIdeal.main_arg1) = m ((c.tc : Thread Cert.StreamsIdeal.nD Cert.StreamsIdeal.τ).loc Cert.StreamsIdeal.main_arg1))
      ∧ θ_run (Cert.StreamsRefIdeal.defs (F := Ideal)) (onTc (τ := Cert.StreamsRefIdeal.τ) (Cert.StreamsRefIdeal.main (F := Ideal))) ⟨m', fun _ => 0, g'⟩ (fun r => ∀ c : Dev Cert.StreamsRefIdeal.nD,
          r.2.mem ((c.tc : Thread Cert.StreamsRefIdeal.nD Cert.StreamsRefIdeal.τ).loc Cert.StreamsRefIdeal.main_v15) = v0 c
          ∧ r.2.mem ((c.tc : Thread Cert.StreamsRefIdeal.nD Cert.StreamsRefIdeal.τ).loc Cert.StreamsRefIdeal.main_v18) = v1 c
          ∧ r.2.mem ((c.tc : Thread Cert.StreamsRefIdeal.nD Cert.StreamsRefIdeal.τ).loc Cert.StreamsRefIdeal.main_v21) = v2 c
          ∧ r.2.mem ((c.tc : Thread Cert.StreamsRefIdeal.nD Cert.StreamsRefIdeal.τ).loc Cert.StreamsRefIdeal.main_arg0) = m' ((c.tc : Thread Cert.StreamsRefIdeal.nD Cert.StreamsRefIdeal.τ).loc Cert.StreamsRefIdeal.main_arg0)
          ∧ r.2.mem ((c.tc : Thread Cert.StreamsRefIdeal.nD Cert.StreamsRefIdeal.τ).loc Cert.StreamsRefIdeal.main_arg1) = m' ((c.tc : Thread Cert.StreamsRefIdeal.nD Cert.StreamsRefIdeal.τ).loc Cert.StreamsRefIdeal.main_arg1))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)) →
    ∃ (v0 : (c : Dev Cert.FirstIdeal.nD) → Buf (Elt Ideal) ((c.tc : Thread Cert.FirstIdeal.nD Cert.FirstIdeal.τ).loc Cert.FirstIdeal.main_v16)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v16) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v91) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6))

def Claim : Prop :=
  ∃ (hPool : Cert.Pool.Facts) (hPoolIdeal : Cert.PoolIdeal.Facts) (hPoolRefIdeal : Cert.PoolRefIdeal.Facts) (hDil0 : Cert.Dil0.Facts) (hDil0Ideal : Cert.Dil0Ideal.Facts) (hDil0RefIdeal : Cert.Dil0RefIdeal.Facts) (hDil1 : Cert.Dil1.Facts) (hDil1Ideal : Cert.Dil1Ideal.Facts) (hDil1RefIdeal : Cert.Dil1RefIdeal.Facts) (hDil2 : Cert.Dil2.Facts) (hDil2Ideal : Cert.Dil2Ideal.Facts) (hDil2RefIdeal : Cert.Dil2RefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hStreams : Cert.Streams.Facts) (hStreamsIdeal : Cert.StreamsIdeal.Facts) (hStreamsRefIdeal : Cert.StreamsRefIdeal.Facts) (hFirst : Cert.First.Facts) (hFirstIdeal : Cert.FirstIdeal.Facts) (hFirstRefIdeal : Cert.FirstRefIdeal.Facts),
    quiescent_Pool (hPool := hPool)
    ∧ quiescent_PoolIdeal (hPoolIdeal := hPoolIdeal)
    ∧ quiescent_PoolRefIdeal (hPoolRefIdeal := hPoolRefIdeal)
    ∧ quiescent_Dil0 (hDil0 := hDil0)
    ∧ quiescent_Dil0Ideal (hDil0Ideal := hDil0Ideal)
    ∧ quiescent_Dil0RefIdeal (hDil0RefIdeal := hDil0RefIdeal)
    ∧ quiescent_Dil1 (hDil1 := hDil1)
    ∧ quiescent_Dil1Ideal (hDil1Ideal := hDil1Ideal)
    ∧ quiescent_Dil1RefIdeal (hDil1RefIdeal := hDil1RefIdeal)
    ∧ quiescent_Dil2 (hDil2 := hDil2)
    ∧ quiescent_Dil2Ideal (hDil2Ideal := hDil2Ideal)
    ∧ quiescent_Dil2RefIdeal (hDil2RefIdeal := hDil2RefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Streams (hStreams := hStreams)
    ∧ quiescent_StreamsIdeal (hStreamsIdeal := hStreamsIdeal)
    ∧ quiescent_StreamsRefIdeal (hStreamsRefIdeal := hStreamsRefIdeal)
    ∧ quiescent_First (hFirst := hFirst)
    ∧ quiescent_FirstIdeal (hFirstIdeal := hFirstIdeal)
    ∧ quiescent_FirstRefIdeal (hFirstRefIdeal := hFirstRefIdeal)
    ∧ preserves_Pool_PoolIdeal
    ∧ algebraic_PoolIdeal_PoolRefIdeal (hPoolIdeal := hPoolIdeal) (hPoolRefIdeal := hPoolRefIdeal)
    ∧ preserves_Dil0_Dil0Ideal
    ∧ algebraic_Dil0Ideal_Dil0RefIdeal (hDil0Ideal := hDil0Ideal) (hDil0RefIdeal := hDil0RefIdeal)
    ∧ preserves_Dil1_Dil1Ideal
    ∧ algebraic_Dil1Ideal_Dil1RefIdeal (hDil1Ideal := hDil1Ideal) (hDil1RefIdeal := hDil1RefIdeal)
    ∧ preserves_Dil2_Dil2Ideal
    ∧ algebraic_Dil2Ideal_Dil2RefIdeal (hDil2Ideal := hDil2Ideal) (hDil2RefIdeal := hDil2RefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Streams_StreamsIdeal
    ∧ algebraic_StreamsIdeal_StreamsRefIdeal (hStreamsIdeal := hStreamsIdeal) (hStreamsRefIdeal := hStreamsRefIdeal)
    ∧ preserves_First_FirstIdeal
    ∧ algebraic_FirstIdeal_FirstRefIdeal (hFirstIdeal := hFirstIdeal) (hFirstRefIdeal := hFirstRefIdeal)
-- ==== Pool.lean ====
abbrev S8x8192x1024 : Shape := ⟨3, ![8, 8192, 1024]⟩
abbrev S4x1024 : Shape := ⟨2, ![4, 1024]⟩
abbrev S1024 : Shape := ⟨1, ![1024]⟩
abbrev S4x2048x1024 : Shape := ⟨3, ![4, 2048, 1024]⟩
abbrev S2x1024x4096 : Shape := ⟨3, ![2, 1024, 4096]⟩
abbrev S2x4x512x512 : Shape := ⟨4, ![2, 4, 512, 512]⟩
abbrev S2x2048 : Shape := ⟨2, ![2, 2048]⟩
abbrev S1x1024 : Shape := ⟨2, ![1, 1024]⟩
abbrev S1x1024x4096 : Shape := ⟨3, ![1, 1024, 4096]⟩
abbrev S1024x4096 : Shape := ⟨2, ![1024, 4096]⟩
abbrev S1x4x512x512 : Shape := ⟨4, ![1, 4, 512, 512]⟩
abbrev S4x512x512 : Shape := ⟨3, ![4, 512, 512]⟩
abbrev S1x2048 : Shape := ⟨2, ![1, 2048]⟩
abbrev S2048 : Shape := ⟨1, ![2048]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1040x2048 : Shape := ⟨2, ![1040, 2048]⟩
abbrev S1024x2048 : Shape := ⟨2, ![1024, 2048]⟩
abbrev S16x2048 : Shape := ⟨2, ![16, 2048]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩
abbrev S512x2048 : Shape := ⟨2, ![512, 2048]⟩
abbrev S528x512 : Shape := ⟨2, ![528, 512]⟩
abbrev S512x512 : Shape := ⟨2, ![512, 512]⟩
abbrev S1x512x512 : Shape := ⟨3, ![1, 512, 512]⟩
abbrev S1x512 : Shape := ⟨2, ![1, 512]⟩

abbrev nBuf : Space → Nat
  | .hbm => 24
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S4x1024, .f32⟩
  | .hbm, ⟨2, _⟩ => ⟨S1024, .f32⟩
  | .hbm, ⟨3, _⟩ => ⟨S4x2048x1024, .f32⟩
  | .hbm, ⟨4, _⟩ => ⟨S2x1024x4096, .f32⟩
  | .hbm, ⟨5, _⟩ => ⟨S2x4x512x512, .f32⟩
  | .hbm, ⟨6, _⟩ => ⟨S2x2048, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024x4096, .f32⟩
  | .hbm, ⟨11, _⟩ => ⟨S1024x4096, .f32⟩
  | .hbm, ⟨12, _⟩ => ⟨S1024x4096, .bf16⟩
  | .hbm, ⟨13, _⟩ => ⟨S1x4x512x512, .f32⟩
  | .hbm, ⟨14, _⟩ => ⟨S4x512x512, .f32⟩
  | .hbm, ⟨15, _⟩ => ⟨S4x512x512, .bf16⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S1x2048x1024, .f32⟩
  | .hbm, ⟨20, _⟩ => ⟨S2048x1024, .f32⟩
  | .hbm, ⟨21, _⟩ => ⟨S2048x1024, .bf16⟩
  | .hbm, ⟨22, _⟩ => ⟨S1x1024, .f32⟩
  | .hbm, ⟨23, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x4096, .bf16⟩
  | .local _ .vmem, ⟨4, _⟩ => ⟨S4x512x512, .bf16⟩
  | .local _ .vmem, ⟨5, _⟩ => ⟨S1x2048, .f32⟩
  | .local _ .vmem, ⟨6, _⟩ => ⟨S2048x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1040x2048, .f32⟩
  | .local _ .vmem, ⟨11, _⟩ => ⟨S1024x2048, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== PoolRefIdeal.lean ====
abbrev S8x8192x1024 : Shape := ⟨3, ![8, 8192, 1024]⟩
abbrev S4x1024 : Shape := ⟨2, ![4, 1024]⟩
abbrev S1024 : Shape := ⟨1, ![1024]⟩
abbrev S4x2048x1024 : Shape := ⟨3, ![4, 2048, 1024]⟩
abbrev S2x1024x4096 : Shape := ⟨3, ![2, 1024, 4096]⟩
abbrev S2x4x512x512 : Shape := ⟨4, ![2, 4, 512, 512]⟩
abbrev S2x2048 : Shape := ⟨2, ![2, 2048]⟩
abbrev S1x1024 : Shape := ⟨2, ![1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x8192x4096 : Shape := ⟨3, ![8, 8192, 4096]⟩
abbrev S8x8192x2048 : Shape := ⟨3, ![8, 8192, 2048]⟩
abbrev S1x4x512x512 : Shape := ⟨4, ![1, 4, 512, 512]⟩
abbrev S4x512x512 : Shape := ⟨3, ![4, 512, 512]⟩
abbrev S1x2048 : Shape := ⟨2, ![1, 2048]⟩
abbrev S2048 : Shape := ⟨1, ![2048]⟩
abbrev S8x8192x4x512 : Shape := ⟨4, ![8, 8192, 4, 512]⟩
abbrev S8192 : Shape := ⟨1, ![8192]⟩
abbrev S8x8192x1x512 : Shape := ⟨4, ![8, 8192, 1, 512]⟩
abbrev S8x8192x512 : Shape := ⟨3, ![8, 8192, 512]⟩
abbrev S1x8192x1 : Shape := ⟨3, ![1, 8192, 1]⟩
abbrev S4x512x8x8192 : Shape := ⟨4, ![4, 512, 8, 8192]⟩
abbrev S1x1x2048 : Shape := ⟨3, ![1, 1, 2048]⟩
abbrev S1x2048x1024 : Shape := ⟨3, ![1, 2048, 1024]⟩
abbrev S2048x1024 : Shape := ⟨2, ![2048, 1024]⟩

abbrev nBuf : Space → Nat
  | .hbm => 138
  | .vmem => 0
  | .smem => 0
  | _ => 0

abbrev hbmTy0_0 (i : Nat) : BufTy := match i % 128 with
  | 0 => ⟨S8x8192x1024, .f32⟩
  | 1 => ⟨S4x1024, .f32⟩
  | 2 => ⟨S1024, .f32⟩
  | 3 => ⟨S4x2048x1024, .f32⟩
  | 4 => ⟨S2x1024x4096, .f32⟩
  | 5 => ⟨S2x4x512x512, .f32⟩
  | 6 => ⟨S2x2048, .f32⟩
  | 7 => ⟨S1x1024, .f32⟩
  | 8 => ⟨S1024, .f32⟩
  | 9 => ⟨S8x8192x1024, .f32⟩
  | 10 => ⟨S_, .f32⟩
  | 11 => ⟨S8x8192, .f32⟩
  | 12 => ⟨S8x8192x1, .f32⟩
  | 13 => ⟨S_, .f32⟩
  | 14 => ⟨S8x8192x1, .f32⟩
  | 15 => ⟨S8x8192x1, .f32⟩
  | 16 => ⟨S_, .f32⟩
  | 17 => ⟨S8x8192x1, .f32⟩
  | 18 => ⟨S8x8192x1, .f32⟩
  | 19 => ⟨S8x8192x1, .f32⟩
  | 20 => ⟨S8x8192x1024, .f32⟩
  | 21 => ⟨S8x8192x1024, .f32⟩
  | 22 => ⟨S1x1x1024, .f32⟩
  | 23 => ⟨S8x8192x1024, .f32⟩
  | 24 => ⟨S8x8192x1024, .f32⟩
  | 25 => ⟨S1x1024x4096, .f32⟩
  | 26 => ⟨S1024x4096, .f32⟩
  | 27 => ⟨S8x8192x4096, .f32⟩
  | 28 => ⟨S8x8192x2048, .f32⟩
  | 29 => ⟨S8x8192x2048, .f32⟩
  | 30 => ⟨S1x4x512x512, .f32⟩
  | 31 => ⟨S4x512x512, .f32⟩
  | 32 => ⟨S1x2048, .f32⟩
  | 33 => ⟨S2048, .f32⟩
  | 34 => ⟨S8x8192x4x512, .f32⟩
  | 35 => ⟨S8192, .i32⟩
  | 36 => ⟨S8x8192x1x512, .f32⟩
  | 37 => ⟨S8x8192x512, .f32⟩
  | 38 => ⟨S_, .f32⟩
  | 39 => ⟨S_, .f32⟩
  | 40 => ⟨S8x8192x512, .f32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192, .f32⟩
  | 48 => ⟨S1x8192x1, .f32⟩
  | 49 => ⟨S8x8192x512, .f32⟩
  | 50 => ⟨S8x8192x512, .f32⟩
  | 51 => ⟨S8x8192x1x512, .f32⟩
  | 52 => ⟨S8x8192x512, .f32⟩
  | 53 => ⟨S_, .f32⟩
  | 54 => ⟨S_, .f32⟩
  | 55 => ⟨S8x8192x512, .f32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S1x8192x1, .f32⟩
  | 64 => ⟨S8x8192x512, .f32⟩
  | 65 => ⟨S8x8192x512, .f32⟩
  | 66 => ⟨S8x8192x1x512, .f32⟩
  | 67 => ⟨S8x8192x512, .f32⟩
  | 68 => ⟨S_, .f32⟩
  | 69 => ⟨S_, .f32⟩
  | 70 => ⟨S8x8192x512, .f32⟩
  | 71 => ⟨S_, .i32⟩
  | 72 => ⟨S8192, .i32⟩
  | 73 => ⟨S8192, .i32⟩
  | 74 => ⟨S_, .i32⟩
  | 75 => ⟨S8192, .i32⟩
  | 76 => ⟨S8192, .i32⟩
  | 77 => ⟨S8192, .f32⟩
  | 78 => ⟨S1x8192x1, .f32⟩
  | 79 => ⟨S8x8192x512, .f32⟩
  | 80 => ⟨S8x8192x512, .f32⟩
  | 81 => ⟨S8x8192x1x512, .f32⟩
  | 82 => ⟨S8x8192x512, .f32⟩
  | 83 => ⟨S_, .f32⟩
  | 84 => ⟨S_, .f32⟩
  | 85 => ⟨S8x8192x512, .f32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S8192, .f32⟩
  | 93 => ⟨S1x8192x1, .f32⟩
  | 94 => ⟨S8x8192x512, .f32⟩
  | 95 => ⟨S8x8192x512, .f32⟩
  | 96 => ⟨S8x8192x1x512, .f32⟩
  | 97 => ⟨S8x8192x1x512, .f32⟩
  | 98 => ⟨S8x8192x1x512, .f32⟩
  | 99 => ⟨S8x8192x1x512, .f32⟩
  | 100 => ⟨S8x8192x4x512, .f32⟩
  | 101 => ⟨S8x8192x4x512, .f32⟩
  | 102 => ⟨S4x512x8x8192, .f32⟩
  | 103 => ⟨S8x8192x4x512, .f32⟩
  | 104 => ⟨S8x8192x2048, .f32⟩
  | 105 => ⟨S1x1x2048, .f32⟩
  | 106 => ⟨S8x8192x2048, .f32⟩
  | 107 => ⟨S8x8192x2048, .f32⟩
  | 108 => ⟨S8x8192x2048, .f32⟩
  | 109 => ⟨S8x8192x2048, .f32⟩
  | 110 => ⟨S_, .f32⟩
  | 111 => ⟨S8x8192x2048, .f32⟩
  | 112 => ⟨S8x8192x2048, .f32⟩
  | 113 => ⟨S_, .f32⟩
  | 114 => ⟨S8x8192x2048, .f32⟩
  | 115 => ⟨S8x8192x2048, .f32⟩
  | 116 => ⟨S8x8192x2048, .f32⟩
  | 117 => ⟨S8x8192x2048, .f32⟩
  | 118 => ⟨S1x2048x1024, .f32⟩
  | 119 => ⟨S2048x1024, .f32⟩
  | 120 => ⟨S8x8192x1024, .f32⟩
  | 121 => ⟨S8x8192x1024, .f32⟩
  | 122 => ⟨S8x8192x1024, .f32⟩
  | 123 => ⟨S_, .f32⟩
  | 124 => ⟨S8x8192, .f32⟩
  | 125 => ⟨S8x8192x1, .f32⟩
  | 126 => ⟨S_, .f32⟩
  | 127 => ⟨S8x8192x1, .f32⟩
  | _ => ⟨S8x8192x1024, .f32⟩

abbrev hbmTy0_1 (i : Nat) : BufTy := match i % 128 with
  | 0 => ⟨S8x8192x1, .f32⟩
  | 1 => ⟨S_, .f32⟩
  | 2 => ⟨S8x8192x1, .f32⟩
  | 3 => ⟨S8x8192x1, .f32⟩
  | 4 => ⟨S8x8192x1, .f32⟩
  | 5 => ⟨S8x8192x1024, .f32⟩
  | 6 => ⟨S8x8192x1024, .f32⟩
  | 7 => ⟨S1x1x1024, .f32⟩
  | 8 => ⟨S8x8192x1024, .f32⟩
  | 9 => ⟨S8x8192x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_c_5 : Ref sig .tc := ⟨.hbm, 56, rfl⟩
abbrev main_v42 : Ref sig .tc := ⟨.hbm, 57, rfl⟩
abbrev main_v43 : Ref sig .tc := ⟨.hbm, 58, rfl⟩
abbrev main_c_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_c_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_c_11 : Ref sig .tc := ⟨.hbm, 86, rfl⟩
abbrev main_v66 : Ref sig .tc := ⟨.hbm, 87, rfl⟩
abbrev main_v67 : Ref sig .tc := ⟨.hbm, 88, rfl⟩
abbrev main_c_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_call0_v0 : Ref sig .tc := ⟨.hbm, 108, rfl⟩
abbrev main_call0_v1 : Ref sig .tc := ⟨.hbm, 109, rfl⟩
abbrev main_call0_cst : Ref sig .tc := ⟨.hbm, 110, rfl⟩
abbrev main_call0_v2 : Ref sig .tc := ⟨.hbm, 111, rfl⟩
abbrev main_call0_v3 : Ref sig .tc := ⟨.hbm, 112, rfl⟩
abbrev main_call0_cst_0 : Ref sig .tc := ⟨.hbm, 113, rfl⟩
abbrev main_call0_v4 : Ref sig .tc := ⟨.hbm, 114, rfl⟩
abbrev main_call0_v5 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_13 : Ref sig .tc := ⟨.hbm, 123, rfl⟩
abbrev main_v93 : Ref sig .tc := ⟨.hbm, 124, rfl⟩
abbrev main_v94 : Ref sig .tc := ⟨.hbm, 125, rfl⟩
abbrev main_cst_14 : Ref sig .tc := ⟨.hbm, 126, rfl⟩
abbrev main_v95 : Ref sig .tc := ⟨.hbm, 127, rfl⟩
abbrev main_v96 : Ref sig .tc := ⟨.hbm, 128, rfl⟩
abbrev main_cst_15 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Dil0.lean ====
abbrev S8x8192x1024 : Shape := ⟨3, ![8, 8192, 1024]⟩
abbrev S1x1024x20480 : Shape := ⟨3, ![1, 1024, 20480]⟩
abbrev S65536x1024 : Shape := ⟨2, ![65536, 1024]⟩
abbrev S20480 : Shape := ⟨1, ![20480]⟩
abbrev S_ : Shape := ⟨0, ![]⟩
abbrev S1024x20480 : Shape := ⟨2, ![1024, 20480]⟩
abbrev S1x20480 : Shape := ⟨2, ![1, 20480]⟩
abbrev S65536x8192 : Shape := ⟨2, ![65536, 8192]⟩
abbrev S1024x1024 : Shape := ⟨2, ![1024, 1024]⟩
abbrev S1024x2048 : Shape := ⟨2, ![1024, 2048]⟩

abbrev nBuf : Space → Nat
  | .hbm => 63
  | .vmem => 6
  | .smem => 0
  | _ => 0

abbrev bufTy : (tb : Table) → Fin (tcTables nBuf tb) → BufTy
  | .hbm, ⟨0, _⟩ => ⟨S8x8192x1024, .bf16⟩
  | .hbm, ⟨1, _⟩ => ⟨S1x1024x20480, .f32⟩
  | .hbm, ⟨2, _⟩ => ⟨S65536x1024, .bf16⟩
  | .hbm, ⟨3, _⟩ => ⟨S20480, .i32⟩
  | .hbm, ⟨4, _⟩ => ⟨S_, .i32⟩
  | .hbm, ⟨5, _⟩ => ⟨S_, .i32⟩
  | .hbm, ⟨6, _⟩ => ⟨S20480, .i32⟩
  | .hbm, ⟨7, _⟩ => ⟨S20480, .i32⟩
  | .hbm, ⟨8, _⟩ => ⟨S20480, .i32⟩
  | .hbm, ⟨9, _⟩ => ⟨S_, .i32⟩
  | .hbm, ⟨10, _⟩ => ⟨S20480, .i32⟩
  | .hbm, ⟨11, _⟩ => ⟨S20480, .i1⟩
  | .hbm, ⟨12, _⟩ => ⟨S20480, .i32⟩
  | .hbm, ⟨13, _⟩ => ⟨S20480, .i32⟩
  | .hbm, ⟨14, _⟩ => ⟨S_, .i32⟩
  | .hbm, ⟨15, _⟩ => ⟨S20480, .i32⟩
  | .hbm, ⟨16, _⟩ => ⟨S20480, .i1⟩
  | .hbm, ⟨17, _⟩ => ⟨S20480, .i1⟩
  | .hbm, ⟨18, _⟩ => ⟨S_, .i32⟩
  | .hbm, ⟨19, _⟩ => ⟨S20480, .i32⟩
  | .hbm, ⟨20, _⟩ => ⟨S20480, .i32⟩
  | .hbm, ⟨21, _⟩ => ⟨S20480, .i32⟩
  | .hbm, ⟨22, _⟩ => ⟨S1024x20480, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S20480, .i32⟩
  | .hbm, ⟨30, _⟩ => ⟨S20480, .i32⟩
  | .hbm, ⟨31, _⟩ => ⟨S_, .i32⟩
  | .hbm, ⟨32, _⟩ => ⟨S20480, .i32⟩
  | .hbm, ⟨33, _⟩ => ⟨S20480, .i1⟩
  | .hbm, ⟨34, _⟩ => ⟨S_, .i32⟩
  | .hbm, ⟨35, _⟩ => ⟨S20480, .i32⟩
  | .hbm, ⟨36, _⟩ => ⟨S20480, .i1⟩
  | .hbm, ⟨37, _⟩ => ⟨S_, .i32⟩
  | .hbm, ⟨38, _⟩ => ⟨S_, .i1⟩
  | .hbm, ⟨39, _⟩ => ⟨S20480, .i1⟩
  | .hbm, ⟨40, _⟩ => ⟨S20480, .i1⟩
  | .hbm, ⟨41, _⟩ => ⟨S20480, .i1⟩
  | .hbm, ⟨42, _⟩ => ⟨S20480, .i32⟩
  | .hbm, ⟨43, _⟩ => ⟨S20480, .i32⟩
  | .hbm, ⟨44, _⟩ => ⟨S20480, .i32⟩
  | .hbm, ⟨45, _⟩ => ⟨S_, .i32⟩
  | .hbm, ⟨46, _⟩ => ⟨S20480, .i32⟩
  | .hbm, ⟨47, _⟩ => ⟨S20480, .i1⟩
  | .hbm, ⟨48, _⟩ => ⟨S_, .i32⟩
  | .hbm, ⟨49, _⟩ => ⟨S20480, .i32⟩
  | .hbm, ⟨50, _⟩ => ⟨S20480, .i1⟩
  | .hbm, ⟨51, _⟩ => ⟨S20480, .i1⟩
  | .hbm, ⟨52, _⟩ => ⟨S_, .f32⟩
  | .hbm, ⟨53, _⟩ => ⟨S_, .f32⟩
  | .hbm, ⟨54, _⟩ => ⟨S20480, .f32⟩
  | .hbm, ⟨55, _⟩ => ⟨S20480, .f32⟩
  | .hbm, ⟨56, _⟩ => ⟨S20480, .f32⟩
  | .hbm, ⟨57, _⟩ => ⟨S20480, .f32⟩
  | .hbm, ⟨58, _⟩ => ⟨S1x20480, .f32⟩
  | .hbm, ⟨59, _⟩ => ⟨S1024x20480, .f32⟩
  | .hbm, ⟨60, _⟩ => ⟨S1024x20480, .f32⟩
  | .hbm, ⟨61, _⟩ => ⟨S1024x20480, .bf16⟩
  | .hbm, ⟨62, _⟩ => ⟨S65536x8192, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v4 : Ref sig .tc := ⟨.hbm, 44, rfl⟩
abbrev main_c_1 : Ref sig .tc := ⟨.hbm, 45, rfl⟩
abbrev main_v5 : Ref sig .tc := ⟨.hbm, 46, rfl⟩
abbrev main_v6 : Ref sig .tc := ⟨.hbm, 47, rfl⟩
abbrev main_c_2 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst : Ref sig .tc := ⟨.hbm, 52, rfl⟩
abbrev main_cst_3 : Ref sig .tc := ⟨.hbm, 53, rfl⟩
abbrev main_call2_v0 : Ref sig .tc := ⟨.hbm, 54, rfl⟩
abbrev main_call2_v1 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg1 c3_i32
  let c9_i32 : BitVec 32 := 9#32
  let v1 : BitVec 32 := Scalar.select v0 arg1 c9_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dil0RefIdeal.lean ====
abbrev S8x8192x1024 : Shape := ⟨3, ![8, 8192, 1024]⟩
abbrev S1x1024x20480 : Shape := ⟨3, ![1, 1024, 20480]⟩
abbrev S1024x20480 : Shape := ⟨2, ![1024, 20480]⟩
abbrev S1024x2048 : Shape := ⟨2, ![1024, 2048]⟩
abbrev S8x8192x2048 : Shape := ⟨3, ![8, 8192, 2048]⟩
abbrev S_ : Shape := ⟨0, ![]⟩
abbrev S8x8192x8192 : Shape := ⟨3, ![8, 8192, 8192]⟩
abbrev S65536x8192 : Shape := ⟨2, ![65536, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S1x1024x20480, .f32⟩
  | .hbm, ⟨2, _⟩ => ⟨S1024x20480, .f32⟩
  | .hbm, ⟨3, _⟩ => ⟨S8x8192x1024, .f32⟩
  | .hbm, ⟨4, _⟩ => ⟨S1024x2048, .f32⟩
  | .hbm, ⟨5, _⟩ => ⟨S8x8192x2048, .f32⟩
  | .hbm, ⟨6, _⟩ => ⟨S_, .f32⟩
  | .hbm, ⟨7, _⟩ => ⟨S8x8192x2048, .f32⟩
  | .hbm, ⟨8, _⟩ => ⟨S8x8192x2048, .f32⟩
  | .hbm, ⟨9, _⟩ => ⟨S1024x2048, .f32⟩
  | .hbm, ⟨10, _⟩ => ⟨S8x8192x2048, .f32⟩
  | .hbm, ⟨11, _⟩ => ⟨S1024x2048, .f32⟩
  | .hbm, ⟨12, _⟩ => ⟨S8x8192x2048, .f32⟩
  | .hbm, ⟨13, _⟩ => ⟨S1024x2048, .f32⟩
  | .hbm, ⟨14, _⟩ => ⟨S8x8192x2048, .f32⟩
  | .hbm, ⟨15, _⟩ => ⟨S8x8192x8192, .f32⟩
  | .hbm, ⟨16, _⟩ => ⟨S8x8192x8192, .bf16⟩
  | .hbm, ⟨17, _⟩ => ⟨S65536x8192, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Dil1.lean ====
abbrev S8x8192x1024 : Shape := ⟨3, ![8, 8192, 1024]⟩
abbrev S1x1024x20480 : Shape := ⟨3, ![1, 1024, 20480]⟩
abbrev S65536x1024 : Shape := ⟨2, ![65536, 1024]⟩
abbrev S20480 : Shape := ⟨1, ![20480]⟩
abbrev S_ : Shape := ⟨0, ![]⟩
abbrev S1024x20480 : Shape := ⟨2, ![1024, 20480]⟩
abbrev S1x20480 : Shape := ⟨2, ![1, 20480]⟩
abbrev S65536x6144 : Shape := ⟨2, ![65536, 6144]⟩
abbrev S1024x1024 : Shape := ⟨2, ![1024, 1024]⟩
abbrev S1024x2048 : Shape := ⟨2, ![1024, 2048]⟩

abbrev nBuf : Space → Nat
  | .hbm => 63
  | .vmem => 6
  | .smem => 0
  | _ => 0

abbrev bufTy : (tb : Table) → Fin (tcTables nBuf tb) → BufTy
  | .hbm, ⟨0, _⟩ => ⟨S8x8192x1024, .bf16⟩
  | .hbm, ⟨1, _⟩ => ⟨S1x1024x20480, .f32⟩
  | .hbm, ⟨2, _⟩ => ⟨S65536x1024, .bf16⟩
  | .hbm, ⟨3, _⟩ => ⟨S20480, .i32⟩
  | .hbm, ⟨4, _⟩ => ⟨S_, .i32⟩
  | .hbm, ⟨5, _⟩ => ⟨S_, .i32⟩
  | .hbm, ⟨6, _⟩ => ⟨S20480, .i32⟩
  | .hbm, ⟨7, _⟩ => ⟨S20480, .i32⟩
  | .hbm, ⟨8, _⟩ => ⟨S20480, .i32⟩
  | .hbm, ⟨9, _⟩ => ⟨S_, .i32⟩
  | .hbm, ⟨10, _⟩ => ⟨S20480, .i32⟩
  | .hbm, ⟨11, _⟩ => ⟨S20480, .i1⟩
  | .hbm, ⟨12, _⟩ => ⟨S20480, .i32⟩
  | .hbm, ⟨13, _⟩ => ⟨S20480, .i32⟩
  | .hbm, ⟨14, _⟩ => ⟨S_, .i32⟩
  | .hbm, ⟨15, _⟩ => ⟨S20480, .i32⟩
  | .hbm, ⟨16, _⟩ => ⟨S20480, .i1⟩
  | .hbm, ⟨17, _⟩ => ⟨S20480, .i1⟩
  | .hbm, ⟨18, _⟩ => ⟨S_, .i32⟩
  | .hbm, ⟨19, _⟩ => ⟨S20480, .i32⟩
  | .hbm, ⟨20, _⟩ => ⟨S20480, .i32⟩
  | .hbm, ⟨21, _⟩ => ⟨S20480, .i32⟩
  | .hbm, ⟨22, _⟩ => ⟨S1024x20480, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S20480, .i32⟩
  | .hbm, ⟨30, _⟩ => ⟨S20480, .i32⟩
  | .hbm, ⟨31, _⟩ => ⟨S_, .i32⟩
  | .hbm, ⟨32, _⟩ => ⟨S20480, .i32⟩
  | .hbm, ⟨33, _⟩ => ⟨S20480, .i1⟩
  | .hbm, ⟨34, _⟩ => ⟨S_, .i32⟩
  | .hbm, ⟨35, _⟩ => ⟨S20480, .i32⟩
  | .hbm, ⟨36, _⟩ => ⟨S20480, .i1⟩
  | .hbm, ⟨37, _⟩ => ⟨S_, .i32⟩
  | .hbm, ⟨38, _⟩ => ⟨S_, .i1⟩
  | .hbm, ⟨39, _⟩ => ⟨S20480, .i1⟩
  | .hbm, ⟨40, _⟩ => ⟨S20480, .i1⟩
  | .hbm, ⟨41, _⟩ => ⟨S20480, .i1⟩
  | .hbm, ⟨42, _⟩ => ⟨S20480, .i32⟩
  | .hbm, ⟨43, _⟩ => ⟨S20480, .i32⟩
  | .hbm, ⟨44, _⟩ => ⟨S20480, .i32⟩
  | .hbm, ⟨45, _⟩ => ⟨S_, .i32⟩
  | .hbm, ⟨46, _⟩ => ⟨S20480, .i32⟩
  | .hbm, ⟨47, _⟩ => ⟨S20480, .i1⟩
  | .hbm, ⟨48, _⟩ => ⟨S_, .i32⟩
  | .hbm, ⟨49, _⟩ => ⟨S20480, .i32⟩
  | .hbm, ⟨50, _⟩ => ⟨S20480, .i1⟩
  | .hbm, ⟨51, _⟩ => ⟨S20480, .i1⟩
  | .hbm, ⟨52, _⟩ => ⟨S_, .f32⟩
  | .hbm, ⟨53, _⟩ => ⟨S_, .f32⟩
  | .hbm, ⟨54, _⟩ => ⟨S20480, .f32⟩
  | .hbm, ⟨55, _⟩ => ⟨S20480, .f32⟩
  | .hbm, ⟨56, _⟩ => ⟨S20480, .f32⟩
  | .hbm, ⟨57, _⟩ => ⟨S20480, .f32⟩
  | .hbm, ⟨58, _⟩ => ⟨S1x20480, .f32⟩
  | .hbm, ⟨59, _⟩ => ⟨S1024x20480, .f32⟩
  | .hbm, ⟨60, _⟩ => ⟨S1024x20480, .f32⟩
  | .hbm, ⟨61, _⟩ => ⟨S1024x20480, .bf16⟩
  | .hbm, ⟨62, _⟩ => ⟨S65536x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v4 : Ref sig .tc := ⟨.hbm, 44, rfl⟩
abbrev main_c_1 : Ref sig .tc := ⟨.hbm, 45, rfl⟩
abbrev main_v5 : Ref sig .tc := ⟨.hbm, 46, rfl⟩
abbrev main_v6 : Ref sig .tc := ⟨.hbm, 47, rfl⟩
abbrev main_c_2 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst : Ref sig .tc := ⟨.hbm, 52, rfl⟩
abbrev main_cst_3 : Ref sig .tc := ⟨.hbm, 53, rfl⟩
abbrev main_call2_v0 : Ref sig .tc := ⟨.hbm, 54, rfl⟩
abbrev main_call2_v1 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dil1RefIdeal.lean ====
abbrev S8x8192x1024 : Shape := ⟨3, ![8, 8192, 1024]⟩
abbrev S1x1024x20480 : Shape := ⟨3, ![1, 1024, 20480]⟩
abbrev S1024x20480 : Shape := ⟨2, ![1024, 20480]⟩
abbrev S1024x2048 : Shape := ⟨2, ![1024, 2048]⟩
abbrev S8x8192x2048 : Shape := ⟨3, ![8, 8192, 2048]⟩
abbrev S_ : Shape := ⟨0, ![]⟩
abbrev S8x8192x6144 : Shape := ⟨3, ![8, 8192, 6144]⟩
abbrev S65536x6144 : Shape := ⟨2, ![65536, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S1x1024x20480, .f32⟩
  | .hbm, ⟨2, _⟩ => ⟨S1024x20480, .f32⟩
  | .hbm, ⟨3, _⟩ => ⟨S8x8192x1024, .f32⟩
  | .hbm, ⟨4, _⟩ => ⟨S1024x2048, .f32⟩
  | .hbm, ⟨5, _⟩ => ⟨S8x8192x2048, .f32⟩
  | .hbm, ⟨6, _⟩ => ⟨S_, .f32⟩
  | .hbm, ⟨7, _⟩ => ⟨S8x8192x2048, .f32⟩
  | .hbm, ⟨8, _⟩ => ⟨S8x8192x2048, .f32⟩
  | .hbm, ⟨9, _⟩ => ⟨S1024x2048, .f32⟩
  | .hbm, ⟨10, _⟩ => ⟨S8x8192x2048, .f32⟩
  | .hbm, ⟨11, _⟩ => ⟨S1024x2048, .f32⟩
  | .hbm, ⟨12, _⟩ => ⟨S8x8192x2048, .f32⟩
  | .hbm, ⟨13, _⟩ => ⟨S8x8192x6144, .f32⟩
  | .hbm, ⟨14, _⟩ => ⟨S8x8192x6144, .bf16⟩
  | .hbm, ⟨15, _⟩ => ⟨S65536x6144, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Dil2.lean ====
abbrev S8x8192x1024 : Shape := ⟨3, ![8, 8192, 1024]⟩
abbrev S1x1024x20480 : Shape := ⟨3, ![1, 1024, 20480]⟩
abbrev S65536x1024 : Shape := ⟨2, ![65536, 1024]⟩
abbrev S20480 : Shape := ⟨1, ![20480]⟩
abbrev S_ : Shape := ⟨0, ![]⟩
abbrev S1024x20480 : Shape := ⟨2, ![1024, 20480]⟩
abbrev S1x20480 : Shape := ⟨2, ![1, 20480]⟩
abbrev S65536x6144 : Shape := ⟨2, ![65536, 6144]⟩
abbrev S1024x1024 : Shape := ⟨2, ![1024, 1024]⟩
abbrev S1024x2048 : Shape := ⟨2, ![1024, 2048]⟩

abbrev nBuf : Space → Nat
  | .hbm => 63
  | .vmem => 6
  | .smem => 0
  | _ => 0

abbrev bufTy : (tb : Table) → Fin (tcTables nBuf tb) → BufTy
  | .hbm, ⟨0, _⟩ => ⟨S8x8192x1024, .bf16⟩
  | .hbm, ⟨1, _⟩ => ⟨S1x1024x20480, .f32⟩
  | .hbm, ⟨2, _⟩ => ⟨S65536x1024, .bf16⟩
  | .hbm, ⟨3, _⟩ => ⟨S20480, .i32⟩
  | .hbm, ⟨4, _⟩ => ⟨S_, .i32⟩
  | .hbm, ⟨5, _⟩ => ⟨S_, .i32⟩
  | .hbm, ⟨6, _⟩ => ⟨S20480, .i32⟩
  | .hbm, ⟨7, _⟩ => ⟨S20480, .i32⟩
  | .hbm, ⟨8, _⟩ => ⟨S20480, .i32⟩
  | .hbm, ⟨9, _⟩ => ⟨S_, .i32⟩
  | .hbm, ⟨10, _⟩ => ⟨S20480, .i32⟩
  | .hbm, ⟨11, _⟩ => ⟨S20480, .i1⟩
  | .hbm, ⟨12, _⟩ => ⟨S20480, .i32⟩
  | .hbm, ⟨13, _⟩ => ⟨S20480, .i32⟩
  | .hbm, ⟨14, _⟩ => ⟨S_, .i32⟩
  | .hbm, ⟨15, _⟩ => ⟨S20480, .i32⟩
  | .hbm, ⟨16, _⟩ => ⟨S20480, .i1⟩
  | .hbm, ⟨17, _⟩ => ⟨S20480, .i1⟩
  | .hbm, ⟨18, _⟩ => ⟨S_, .i32⟩
  | .hbm, ⟨19, _⟩ => ⟨S20480, .i32⟩
  | .hbm, ⟨20, _⟩ => ⟨S20480, .i32⟩
  | .hbm, ⟨21, _⟩ => ⟨S20480, .i32⟩
  | .hbm, ⟨22, _⟩ => ⟨S1024x20480, .f32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S20480, .i32⟩
  | .hbm, ⟨30, _⟩ => ⟨S20480, .i32⟩
  | .hbm, ⟨31, _⟩ => ⟨S_, .i32⟩
  | .hbm, ⟨32, _⟩ => ⟨S20480, .i32⟩
  | .hbm, ⟨33, _⟩ => ⟨S20480, .i1⟩
  | .hbm, ⟨34, _⟩ => ⟨S_, .i32⟩
  | .hbm, ⟨35, _⟩ => ⟨S20480, .i32⟩
  | .hbm, ⟨36, _⟩ => ⟨S20480, .i1⟩
  | .hbm, ⟨37, _⟩ => ⟨S_, .i32⟩
  | .hbm, ⟨38, _⟩ => ⟨S_, .i1⟩
  | .hbm, ⟨39, _⟩ => ⟨S20480, .i1⟩
  | .hbm, ⟨40, _⟩ => ⟨S20480, .i1⟩
  | .hbm, ⟨41, _⟩ => ⟨S20480, .i1⟩
  | .hbm, ⟨42, _⟩ => ⟨S20480, .i32⟩
  | .hbm, ⟨43, _⟩ => ⟨S20480, .i32⟩
  | .hbm, ⟨44, _⟩ => ⟨S20480, .i32⟩
  | .hbm, ⟨45, _⟩ => ⟨S_, .i32⟩
  | .hbm, ⟨46, _⟩ => ⟨S20480, .i32⟩
  | .hbm, ⟨47, _⟩ => ⟨S20480, .i1⟩
  | .hbm, ⟨48, _⟩ => ⟨S_, .i32⟩
  | .hbm, ⟨49, _⟩ => ⟨S20480, .i32⟩
  | .hbm, ⟨50, _⟩ => ⟨S20480, .i1⟩
  | .hbm, ⟨51, _⟩ => ⟨S20480, .i1⟩
  | .hbm, ⟨52, _⟩ => ⟨S_, .f32⟩
  | .hbm, ⟨53, _⟩ => ⟨S_, .f32⟩
  | .hbm, ⟨54, _⟩ => ⟨S20480, .f32⟩
  | .hbm, ⟨55, _⟩ => ⟨S20480, .f32⟩
  | .hbm, ⟨56, _⟩ => ⟨S20480, .f32⟩
  | .hbm, ⟨57, _⟩ => ⟨S20480, .f32⟩
  | .hbm, ⟨58, _⟩ => ⟨S1x20480, .f32⟩
  | .hbm, ⟨59, _⟩ => ⟨S1024x20480, .f32⟩
  | .hbm, ⟨60, _⟩ => ⟨S1024x20480, .f32⟩
  | .hbm, ⟨61, _⟩ => ⟨S1024x20480, .bf16⟩
  | .hbm, ⟨62, _⟩ => ⟨S65536x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v4 : Ref sig .tc := ⟨.hbm, 44, rfl⟩
abbrev main_c_1 : Ref sig .tc := ⟨.hbm, 45, rfl⟩
abbrev main_v5 : Ref sig .tc := ⟨.hbm, 46, rfl⟩
abbrev main_v6 : Ref sig .tc := ⟨.hbm, 47, rfl⟩
abbrev main_c_2 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst : Ref sig .tc := ⟨.hbm, 52, rfl⟩
abbrev main_cst_3 : Ref sig .tc := ⟨.hbm, 53, rfl⟩
abbrev main_call2_v0 : Ref sig .tc := ⟨.hbm, 54, rfl⟩
abbrev main_call2_v1 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Dil2RefIdeal.lean ====
abbrev S8x8192x1024 : Shape := ⟨3, ![8, 8192, 1024]⟩
abbrev S1x1024x20480 : Shape := ⟨3, ![1, 1024, 20480]⟩
abbrev S1024x20480 : Shape := ⟨2, ![1024, 20480]⟩
abbrev S1024x2048 : Shape := ⟨2, ![1024, 2048]⟩
abbrev S8x8192x2048 : Shape := ⟨3, ![8, 8192, 2048]⟩
abbrev S_ : Shape := ⟨0, ![]⟩
abbrev S8x8192x6144 : Shape := ⟨3, ![8, 8192, 6144]⟩
abbrev S65536x6144 : Shape := ⟨2, ![65536, 6144]⟩

abbrev nBuf : Space → Nat
  | .hbm => 16
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S1x1024x20480, .f32⟩
  | .hbm, ⟨2, _⟩ => ⟨S1024x20480, .f32⟩
  | .hbm, ⟨3, _⟩ => ⟨S8x8192x1024, .f32⟩
  | .hbm, ⟨4, _⟩ => ⟨S1024x2048, .f32⟩
  | .hbm, ⟨5, _⟩ => ⟨S8x8192x2048, .f32⟩
  | .hbm, ⟨6, _⟩ => ⟨S_, .f32⟩
  | .hbm, ⟨7, _⟩ => ⟨S8x8192x2048, .f32⟩
  | .hbm, ⟨8, _⟩ => ⟨S8x8192x2048, .f32⟩
  | .hbm, ⟨9, _⟩ => ⟨S1024x2048, .f32⟩
  | .hbm, ⟨10, _⟩ => ⟨S8x8192x2048, .f32⟩
  | .hbm, ⟨11, _⟩ => ⟨S1024x2048, .f32⟩
  | .hbm, ⟨12, _⟩ => ⟨S8x8192x2048, .f32⟩
  | .hbm, ⟨13, _⟩ => ⟨S8x8192x6144, .f32⟩
  | .hbm, ⟨14, _⟩ => ⟨S8x8192x6144, .bf16⟩
  | .hbm, ⟨15, _⟩ => ⟨S65536x6144, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== In.lean ====
abbrev S8x8192x1024 : Shape := ⟨3, ![8, 8192, 1024]⟩
abbrev S4x1024 : Shape := ⟨2, ![4, 1024]⟩
abbrev S1x1024x4608 : Shape := ⟨3, ![1, 1024, 4608]⟩
abbrev S1024x4608 : Shape := ⟨2, ![1024, 4608]⟩
abbrev S1024x2048 : Shape := ⟨2, ![1024, 2048]⟩
abbrev S1024x256 : Shape := ⟨2, ![1024, 256]⟩
abbrev S_ : Shape := ⟨0, ![]⟩
abbrev S65536x1024 : Shape := ⟨2, ![65536, 1024]⟩
abbrev S1x1024 : Shape := ⟨2, ![1, 1024]⟩
abbrev S1024 : Shape := ⟨1, ![1024]⟩
abbrev S65536x4608 : Shape := ⟨2, ![65536, 4608]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S512x4608 : Shape := ⟨2, ![512, 4608]⟩

abbrev nBuf : Space → Nat
  | .hbm => 18
  | .vmem => 6
  | .smem => 0
  | _ => 0

abbrev bufTy : (tb : Table) → Fin (tcTables nBuf tb) → BufTy
  | .hbm, ⟨0, _⟩ => ⟨S8x8192x1024, .f32⟩
  | .hbm, ⟨1, _⟩ => ⟨S4x1024, .f32⟩
  | .hbm, ⟨2, _⟩ => ⟨S1x1024x4608, .f32⟩
  | .hbm, ⟨3, _⟩ => ⟨S1024x4608, .f32⟩
  | .hbm, ⟨4, _⟩ => ⟨S1024x2048, .f32⟩
  | .hbm, ⟨5, _⟩ => ⟨S1024x256, .f32⟩
  | .hbm, ⟨6, _⟩ => ⟨S1024x256, .f32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1024x2048, .f32⟩
  | .hbm, ⟨11, _⟩ => ⟨S1024x4608, .f32⟩
  | .hbm, ⟨12, _⟩ => ⟨S1024x4608, .bf16⟩
  | .hbm, ⟨13, _⟩ => ⟨S65536x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S65536x4608, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4608, .bf16⟩
  | .local _ .vmem, ⟨4, _⟩ => ⟨S1024x4608, .bf16⟩
  | .local _ .vmem, ⟨5, _⟩ => ⟨S1024x4608, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4608 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InRefIdeal.lean ====
abbrev S8x8192x1024 : Shape := ⟨3, ![8, 8192, 1024]⟩
abbrev S4x1024 : Shape := ⟨2, ![4, 1024]⟩
abbrev S1x1024x4608 : Shape := ⟨3, ![1, 1024, 4608]⟩
abbrev S1x1024 : Shape := ⟨2, ![1, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x4608 : Shape := ⟨2, ![1024, 4608]⟩
abbrev S8x8192x4608 : Shape := ⟨3, ![8, 8192, 4608]⟩
abbrev S8x8192x2048 : Shape := ⟨3, ![8, 8192, 2048]⟩
abbrev S8x8192x256 : Shape := ⟨3, ![8, 8192, 256]⟩
abbrev S65536x4608 : Shape := ⟨2, ![65536, 4608]⟩

abbrev nBuf : Space → Nat
  | .hbm => 33
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S4x1024, .f32⟩
  | .hbm, ⟨2, _⟩ => ⟨S1x1024x4608, .f32⟩
  | .hbm, ⟨3, _⟩ => ⟨S1x1024, .f32⟩
  | .hbm, ⟨4, _⟩ => ⟨S1024, .f32⟩
  | .hbm, ⟨5, _⟩ => ⟨S8x8192x1024, .f32⟩
  | .hbm, ⟨6, _⟩ => ⟨S_, .f32⟩
  | .hbm, ⟨7, _⟩ => ⟨S8x8192, .f32⟩
  | .hbm, ⟨8, _⟩ => ⟨S8x8192x1, .f32⟩
  | .hbm, ⟨9, _⟩ => ⟨S_, .f32⟩
  | .hbm, ⟨10, _⟩ => ⟨S8x8192x1, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S8x8192x1, .f32⟩
  | .hbm, ⟨16, _⟩ => ⟨S8x8192x1024, .f32⟩
  | .hbm, ⟨17, _⟩ => ⟨S8x8192x1024, .f32⟩
  | .hbm, ⟨18, _⟩ => ⟨S1x1x1024, .f32⟩
  | .hbm, ⟨19, _⟩ => ⟨S8x8192x1024, .f32⟩
  | .hbm, ⟨20, _⟩ => ⟨S8x8192x1024, .f32⟩
  | .hbm, ⟨21, _⟩ => ⟨S1024x4608, .f32⟩
  | .hbm, ⟨22, _⟩ => ⟨S8x8192x4608, .f32⟩
  | .hbm, ⟨23, _⟩ => ⟨S8x8192x2048, .f32⟩
  | .hbm, ⟨24, _⟩ => ⟨S8x8192x256, .f32⟩
  | .hbm, ⟨25, _⟩ => ⟨S8x8192x256, .f32⟩
  | .hbm, ⟨26, _⟩ => ⟨S8x8192x2048, .f32⟩
  | .hbm, ⟨27, _⟩ => ⟨S_, .f32⟩
  | .hbm, ⟨28, _⟩ => ⟨S8x8192x2048, .f32⟩
  | .hbm, ⟨29, _⟩ => ⟨S8x8192x2048, .f32⟩
  | .hbm, ⟨30, _⟩ => ⟨S8x8192x4608, .f32⟩
  | .hbm, ⟨31, _⟩ => ⟨S8x8192x4608, .bf16⟩
  | .hbm, ⟨32, _⟩ => ⟨S65536x4608, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Out.lean ====
abbrev S8x8192x1024 : Shape := ⟨3, ![8, 8192, 1024]⟩
abbrev S8x8192x2048 : Shape := ⟨3, ![8, 8192, 2048]⟩
abbrev S4x2048x1024 : Shape := ⟨3, ![4, 2048, 1024]⟩
abbrev S65536x1024 : Shape := ⟨2, ![65536, 1024]⟩
abbrev S65536x2048 : Shape := ⟨2, ![65536, 2048]⟩
abbrev S1x2048x1024 : Shape := ⟨3, ![1, 2048, 1024]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 9
  | .vmem => 7
  | .smem => 0
  | _ => 0

abbrev bufTy : (tb : Table) → Fin (tcTables nBuf tb) → BufTy
  | .hbm, ⟨0, _⟩ => ⟨S8x8192x1024, .f32⟩
  | .hbm, ⟨1, _⟩ => ⟨S8x8192x2048, .bf16⟩
  | .hbm, ⟨2, _⟩ => ⟨S4x2048x1024, .f32⟩
  | .hbm, ⟨3, _⟩ => ⟨S65536x1024, .f32⟩
  | .hbm, ⟨4, _⟩ => ⟨S65536x2048, .bf16⟩
  | .hbm, ⟨5, _⟩ => ⟨S1x2048x1024, .f32⟩
  | .hbm, ⟨6, _⟩ => ⟨S2048x1024, .f32⟩
  | .hbm, ⟨7, _⟩ => ⟨S2048x1024, .bf16⟩
  | .hbm, ⟨8, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S8x8192x1024 : Shape := ⟨3, ![8, 8192, 1024]⟩
abbrev S8x8192x2048 : Shape := ⟨3, ![8, 8192, 2048]⟩
abbrev S4x2048x1024 : Shape := ⟨3, ![4, 2048, 1024]⟩
abbrev S1x2048x1024 : Shape := ⟨3, ![1, 2048, 1024]⟩
abbrev S2048x1024 : Shape := ⟨2, ![2048, 1024]⟩
abbrev S65536x1024 : Shape := ⟨2, ![65536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x2048, .bf16⟩
  | .hbm, ⟨2, _⟩ => ⟨S4x2048x1024, .f32⟩
  | .hbm, ⟨3, _⟩ => ⟨S8x8192x2048, .f32⟩
  | .hbm, ⟨4, _⟩ => ⟨S1x2048x1024, .f32⟩
  | .hbm, ⟨5, _⟩ => ⟨S2048x1024, .f32⟩
  | .hbm, ⟨6, _⟩ => ⟨S8x8192x1024, .f32⟩
  | .hbm, ⟨7, _⟩ => ⟨S8x8192x1024, .f32⟩
  | .hbm, ⟨8, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Streams.lean ====
abbrev S8x8192x1024 : Shape := ⟨3, ![8, 8192, 1024]⟩
abbrev S4x1024 : Shape := ⟨2, ![4, 1024]⟩
abbrev S1x1024 : Shape := ⟨2, ![1, 1024]⟩
abbrev S1024 : Shape := ⟨1, ![1024]⟩
abbrev S1x2048x1024 : Shape := ⟨3, ![1, 2048, 1024]⟩
abbrev S2x2048x128 : Shape := ⟨3, ![2, 2048, 128]⟩
abbrev S2x3072x128 : Shape := ⟨3, ![2, 3072, 128]⟩
abbrev S2048x1 : Shape := ⟨2, ![2048, 1]⟩
abbrev S1x2048x128 : Shape := ⟨3, ![1, 2048, 128]⟩
abbrev S2048x128 : Shape := ⟨2, ![2048, 128]⟩
abbrev S2048 : Shape := ⟨1, ![2048]⟩
abbrev S1x128 : Shape := ⟨2, ![1, 128]⟩
abbrev S1x512x128 : Shape := ⟨3, ![1, 512, 128]⟩
abbrev S512x128 : Shape := ⟨2, ![512, 128]⟩
abbrev S16x128 : Shape := ⟨2, ![16, 128]⟩
abbrev S1x16x128 : Shape := ⟨3, ![1, 16, 128]⟩
abbrev S1x128x128 : Shape := ⟨3, ![1, 128, 128]⟩
abbrev S128x128 : Shape := ⟨2, ![128, 128]⟩

abbrev nBuf : Space → Nat
  | .hbm => 8
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S4x1024, .f32⟩
  | .hbm, ⟨2, _⟩ => ⟨S1x1024, .f32⟩
  | .hbm, ⟨3, _⟩ => ⟨S1024, .f32⟩
  | .hbm, ⟨4, _⟩ => ⟨S1x1024, .f32⟩
  | .hbm, ⟨5, _⟩ => ⟨S8x8192x1024, .bf16⟩
  | .hbm, ⟨6, _⟩ => ⟨S8x8192x1024, .bf16⟩
  | .hbm, ⟨7, _⟩ => ⟨S8x8192x1024, .bf16⟩
  | .local _ .vmem, ⟨0, _⟩ => ⟨S1x2048x1024, .f32⟩
  | .local _ .vmem, ⟨1, _⟩ => ⟨S1x2048x1024, .f32⟩
  | .local _ .vmem, ⟨2, _⟩ => ⟨S1x1024, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S2x2048x128, .f32⟩
  | .local _ .vmem, ⟨10, _⟩ => ⟨S2x3072x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== StreamsRefIdeal.lean ====
abbrev S8x8192x1024 : Shape := ⟨3, ![8, 8192, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x4x512x4x1024 : Shape := ⟨5, ![8, 4, 512, 4, 1024]⟩
abbrev S8x4x4x512x1024 : Shape := ⟨5, ![8, 4, 4, 512, 1024]⟩
abbrev S8x4x128x16x1024 : Shape := ⟨5, ![8, 4, 128, 16, 1024]⟩
abbrev S8x4x16x128x1024 : Shape := ⟨5, ![8, 4, 16, 128, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S4x1024, .f32⟩
  | .hbm, ⟨2, _⟩ => ⟨S1x1024, .f32⟩
  | .hbm, ⟨3, _⟩ => ⟨S1024, .f32⟩
  | .hbm, ⟨4, _⟩ => ⟨S8x8192x1024, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S_, .f32⟩
  | .hbm, ⟨12, _⟩ => ⟨S8x8192x1, .f32⟩
  | .hbm, ⟨13, _⟩ => ⟨S8x8192x1, .f32⟩
  | .hbm, ⟨14, _⟩ => ⟨S8x8192x1, .f32⟩
  | .hbm, ⟨15, _⟩ => ⟨S8x8192x1024, .f32⟩
  | .hbm, ⟨16, _⟩ => ⟨S8x8192x1024, .f32⟩
  | .hbm, ⟨17, _⟩ => ⟨S1x1x1024, .f32⟩
  | .hbm, ⟨18, _⟩ => ⟨S8x8192x1024, .f32⟩
  | .hbm, ⟨19, _⟩ => ⟨S8x8192x1024, .f32⟩
  | .hbm, ⟨20, _⟩ => ⟨S8x8192x1024, .bf16⟩
  | .hbm, ⟨21, _⟩ => ⟨S8x4x512x4x1024, .bf16⟩
  | .hbm, ⟨22, _⟩ => ⟨S8x4x4x512x1024, .bf16⟩
  | .hbm, ⟨23, _⟩ => ⟨S8x8192x1024, .bf16⟩
  | .hbm, ⟨24, _⟩ => ⟨S8x4x128x16x1024, .bf16⟩
  | .hbm, ⟨25, _⟩ => ⟨S8x4x16x128x1024, .bf16⟩
  | .hbm, ⟨26, _⟩ => ⟨S8x8192x1024, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== First.lean ====
abbrev S8x8192x1024 : Shape := ⟨3, ![8, 8192, 1024]⟩
abbrev S4x1024 : Shape := ⟨2, ![4, 1024]⟩
abbrev S1024 : Shape := ⟨1, ![1024]⟩
abbrev S4x2048x1024 : Shape := ⟨3, ![4, 2048, 1024]⟩
abbrev S2x1024x4096 : Shape := ⟨3, ![2, 1024, 4096]⟩
abbrev S2x4x512x512 : Shape := ⟨4, ![2, 4, 512, 512]⟩
abbrev S2x2048 : Shape := ⟨2, ![2, 2048]⟩
abbrev S1x1024 : Shape := ⟨2, ![1, 1024]⟩
abbrev S1x1024x4096 : Shape := ⟨3, ![1, 1024, 4096]⟩
abbrev S1024x4096 : Shape := ⟨2, ![1024, 4096]⟩
abbrev S1x4x512x512 : Shape := ⟨4, ![1, 4, 512, 512]⟩
abbrev S4x512x512 : Shape := ⟨3, ![4, 512, 512]⟩
abbrev S1x2048 : Shape := ⟨2, ![1, 2048]⟩
abbrev S2048 : Shape := ⟨1, ![2048]⟩
abbrev S1x2048x1024 : Shape := ⟨3, ![1, 2048, 1024]⟩
abbrev S2048x1024 : Shape := ⟨2, ![2048, 1024]⟩
abbrev S1x1024x1024 : Shape := ⟨3, ![1, 1024, 1024]⟩
abbrev S1040x2048 : Shape := ⟨2, ![1040, 2048]⟩
abbrev S1024x2048 : Shape := ⟨2, ![1024, 2048]⟩
abbrev S16x2048 : Shape := ⟨2, ![16, 2048]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x4096 : Shape := ⟨2, ![512, 4096]⟩
abbrev S512x2048 : Shape := ⟨2, ![512, 2048]⟩
abbrev S528x512 : Shape := ⟨2, ![528, 512]⟩
abbrev S512x512 : Shape := ⟨2, ![512, 512]⟩
abbrev S1x512x512 : Shape := ⟨3, ![1, 512, 512]⟩
abbrev S1x512 : Shape := ⟨2, ![1, 512]⟩

abbrev nBuf : Space → Nat
  | .hbm => 24
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S4x1024, .f32⟩
  | .hbm, ⟨2, _⟩ => ⟨S1024, .f32⟩
  | .hbm, ⟨3, _⟩ => ⟨S4x2048x1024, .f32⟩
  | .hbm, ⟨4, _⟩ => ⟨S2x1024x4096, .f32⟩
  | .hbm, ⟨5, _⟩ => ⟨S2x4x512x512, .f32⟩
  | .hbm, ⟨6, _⟩ => ⟨S2x2048, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024x4096, .f32⟩
  | .hbm, ⟨11, _⟩ => ⟨S1024x4096, .f32⟩
  | .hbm, ⟨12, _⟩ => ⟨S1024x4096, .bf16⟩
  | .hbm, ⟨13, _⟩ => ⟨S1x4x512x512, .f32⟩
  | .hbm, ⟨14, _⟩ => ⟨S4x512x512, .f32⟩
  | .hbm, ⟨15, _⟩ => ⟨S4x512x512, .bf16⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S1x2048x1024, .f32⟩
  | .hbm, ⟨20, _⟩ => ⟨S2048x1024, .f32⟩
  | .hbm, ⟨21, _⟩ => ⟨S2048x1024, .bf16⟩
  | .hbm, ⟨22, _⟩ => ⟨S1x1024, .f32⟩
  | .hbm, ⟨23, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x4096, .bf16⟩
  | .local _ .vmem, ⟨4, _⟩ => ⟨S4x512x512, .bf16⟩
  | .local _ .vmem, ⟨5, _⟩ => ⟨S1x2048, .f32⟩
  | .local _ .vmem, ⟨6, _⟩ => ⟨S2048x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1040x2048, .f32⟩
  | .local _ .vmem, ⟨11, _⟩ => ⟨S1024x2048, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FirstRefIdeal.lean ====
abbrev S8x8192x1024 : Shape := ⟨3, ![8, 8192, 1024]⟩
abbrev S4x1024 : Shape := ⟨2, ![4, 1024]⟩
abbrev S1024 : Shape := ⟨1, ![1024]⟩
abbrev S4x2048x1024 : Shape := ⟨3, ![4, 2048, 1024]⟩
abbrev S2x1024x4096 : Shape := ⟨3, ![2, 1024, 4096]⟩
abbrev S2x4x512x512 : Shape := ⟨4, ![2, 4, 512, 512]⟩
abbrev S2x2048 : Shape := ⟨2, ![2, 2048]⟩
abbrev S1x1024 : Shape := ⟨2, ![1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x8192x4096 : Shape := ⟨3, ![8, 8192, 4096]⟩
abbrev S8x8192x2048 : Shape := ⟨3, ![8, 8192, 2048]⟩
abbrev S1x4x512x512 : Shape := ⟨4, ![1, 4, 512, 512]⟩
abbrev S4x512x512 : Shape := ⟨3, ![4, 512, 512]⟩
abbrev S1x2048 : Shape := ⟨2, ![1, 2048]⟩
abbrev S2048 : Shape := ⟨1, ![2048]⟩
abbrev S8x8192x4x512 : Shape := ⟨4, ![8, 8192, 4, 512]⟩
abbrev S8192 : Shape := ⟨1, ![8192]⟩
abbrev S8x8192x1x512 : Shape := ⟨4, ![8, 8192, 1, 512]⟩
abbrev S8x8192x512 : Shape := ⟨3, ![8, 8192, 512]⟩
abbrev S1x8192x1 : Shape := ⟨3, ![1, 8192, 1]⟩
abbrev S4x512x8x8192 : Shape := ⟨4, ![4, 512, 8, 8192]⟩
abbrev S1x1x2048 : Shape := ⟨3, ![1, 1, 2048]⟩
abbrev S1x2048x1024 : Shape := ⟨3, ![1, 2048, 1024]⟩
abbrev S2048x1024 : Shape := ⟨2, ![2048, 1024]⟩

abbrev nBuf : Space → Nat
  | .hbm => 122
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S4x1024, .f32⟩
  | .hbm, ⟨2, _⟩ => ⟨S1024, .f32⟩
  | .hbm, ⟨3, _⟩ => ⟨S4x2048x1024, .f32⟩
  | .hbm, ⟨4, _⟩ => ⟨S2x1024x4096, .f32⟩
  | .hbm, ⟨5, _⟩ => ⟨S2x4x512x512, .f32⟩
  | .hbm, ⟨6, _⟩ => ⟨S2x2048, .f32⟩
  | .hbm, ⟨7, _⟩ => ⟨S1x1024, .f32⟩
  | .hbm, ⟨8, _⟩ => ⟨S1024, .f32⟩
  | .hbm, ⟨9, _⟩ => ⟨S8x8192x1024, .f32⟩
  | .hbm, ⟨10, _⟩ => ⟨S_, .f32⟩
  | .hbm, ⟨11, _⟩ => ⟨S8x8192, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S8x8192x1, .f32⟩
  | .hbm, ⟨20, _⟩ => ⟨S8x8192x1024, .f32⟩
  | .hbm, ⟨21, _⟩ => ⟨S8x8192x1024, .f32⟩
  | .hbm, ⟨22, _⟩ => ⟨S1x1x1024, .f32⟩
  | .hbm, ⟨23, _⟩ => ⟨S8x8192x1024, .f32⟩
  | .hbm, ⟨24, _⟩ => ⟨S8x8192x1024, .f32⟩
  | .hbm, ⟨25, _⟩ => ⟨S1x1024x4096, .f32⟩
  | .hbm, ⟨26, _⟩ => ⟨S1024x4096, .f32⟩
  | .hbm, ⟨27, _⟩ => ⟨S8x8192x4096, .f32⟩
  | .hbm, ⟨28, _⟩ => ⟨S8x8192x2048, .f32⟩
  | .hbm, ⟨29, _⟩ => ⟨S8x8192x2048, .f32⟩
  | .hbm, ⟨30, _⟩ => ⟨S1x4x512x512, .f32⟩
  | .hbm, ⟨31, _⟩ => ⟨S4x512x512, .f32⟩
  | .hbm, ⟨32, _⟩ => ⟨S1x2048, .f32⟩
  | .hbm, ⟨33, _⟩ => ⟨S2048, .f32⟩
  | .hbm, ⟨34, _⟩ => ⟨S8x8192x4x512, .f32⟩
  | .hbm, ⟨35, _⟩ => ⟨S8192, .i32⟩
  | .hbm, ⟨36, _⟩ => ⟨S8x8192x1x512, .f32⟩
  | .hbm, ⟨37, _⟩ => ⟨S8x8192x512, .f32⟩
  | .hbm, ⟨38, _⟩ => ⟨S_, .f32⟩
  | .hbm, ⟨39, _⟩ => ⟨S_, .f32⟩
  | .hbm, ⟨40, _⟩ => ⟨S8x8192x512, .f32⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .f32⟩
  | .hbm, ⟨48, _⟩ => ⟨S1x8192x1, .f32⟩
  | .hbm, ⟨49, _⟩ => ⟨S8x8192x512, .f32⟩
  | .hbm, ⟨50, _⟩ => ⟨S8x8192x512, .f32⟩
  | .hbm, ⟨51, _⟩ => ⟨S8x8192x1x512, .f32⟩
  | .hbm, ⟨52, _⟩ => ⟨S8x8192x512, .f32⟩
  | .hbm, ⟨53, _⟩ => ⟨S_, .f32⟩
  | .hbm, ⟨54, _⟩ => ⟨S_, .f32⟩
  | .hbm, ⟨55, _⟩ => ⟨S8x8192x512, .f32⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S8192, .f32⟩
  | .hbm, ⟨63, _⟩ => ⟨S1x8192x1, .f32⟩
  | .hbm, ⟨64, _⟩ => ⟨S8x8192x512, .f32⟩
  | .hbm, ⟨65, _⟩ => ⟨S8x8192x512, .f32⟩
  | .hbm, ⟨66, _⟩ => ⟨S8x8192x1x512, .f32⟩
  | .hbm, ⟨67, _⟩ => ⟨S8x8192x512, .f32⟩
  | .hbm, ⟨68, _⟩ => ⟨S_, .f32⟩
  | .hbm, ⟨69, _⟩ => ⟨S_, .f32⟩
  | .hbm, ⟨70, _⟩ => ⟨S8x8192x512, .f32⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S_, .i32⟩
  | .hbm, ⟨75, _⟩ => ⟨S8192, .i32⟩
  | .hbm, ⟨76, _⟩ => ⟨S8192, .i32⟩
  | .hbm, ⟨77, _⟩ => ⟨S8192, .f32⟩
  | .hbm, ⟨78, _⟩ => ⟨S1x8192x1, .f32⟩
  | .hbm, ⟨79, _⟩ => ⟨S8x8192x512, .f32⟩
  | .hbm, ⟨80, _⟩ => ⟨S8x8192x512, .f32⟩
  | .hbm, ⟨81, _⟩ => ⟨S8x8192x1x512, .f32⟩
  | .hbm, ⟨82, _⟩ => ⟨S8x8192x512, .f32⟩
  | .hbm, ⟨83, _⟩ => ⟨S_, .f32⟩
  | .hbm, ⟨84, _⟩ => ⟨S_, .f32⟩
  | .hbm, ⟨85, _⟩ => ⟨S8x8192x512, .f32⟩
  | .hbm, ⟨86, _⟩ => ⟨S_, .i32⟩
  | .hbm, ⟨87, _⟩ => ⟨S8192, .i32⟩
  | .hbm, ⟨88, _⟩ => ⟨S8192, .i32⟩
  | .hbm, ⟨89, _⟩ => ⟨S_, .i32⟩
  | .hbm, ⟨90, _⟩ => ⟨S8192, .i32⟩
  | .hbm, ⟨91, _⟩ => ⟨S8192, .i32⟩
  | .hbm, ⟨92, _⟩ => ⟨S8192, .f32⟩
  | .hbm, ⟨93, _⟩ => ⟨S1x8192x1, .f32⟩
  | .hbm, ⟨94, _⟩ => ⟨S8x8192x512, .f32⟩
  | .hbm, ⟨95, _⟩ => ⟨S8x8192x512, .f32⟩
  | .hbm, ⟨96, _⟩ => ⟨S8x8192x1x512, .f32⟩
  | .hbm, ⟨97, _⟩ => ⟨S8x8192x1x512, .f32⟩
  | .hbm, ⟨98, _⟩ => ⟨S8x8192x1x512, .f32⟩
  | .hbm, ⟨99, _⟩ => ⟨S8x8192x1x512, .f32⟩
  | .hbm, ⟨100, _⟩ => ⟨S8x8192x4x512, .f32⟩
  | .hbm, ⟨101, _⟩ => ⟨S8x8192x4x512, .f32⟩
  | .hbm, ⟨102, _⟩ => ⟨S4x512x8x8192, .f32⟩
  | .hbm, ⟨103, _⟩ => ⟨S8x8192x4x512, .f32⟩
  | .hbm, ⟨104, _⟩ => ⟨S8x8192x2048, .f32⟩
  | .hbm, ⟨105, _⟩ => ⟨S1x1x2048, .f32⟩
  | .hbm, ⟨106, _⟩ => ⟨S8x8192x2048, .f32⟩
  | .hbm, ⟨107, _⟩ => ⟨S8x8192x2048, .f32⟩
  | .hbm, ⟨108, _⟩ => ⟨S8x8192x2048, .f32⟩
  | .hbm, ⟨109, _⟩ => ⟨S8x8192x2048, .f32⟩
  | .hbm, ⟨110, _⟩ => ⟨S_, .f32⟩
  | .hbm, ⟨111, _⟩ => ⟨S8x8192x2048, .f32⟩
  | .hbm, ⟨112, _⟩ => ⟨S8x8192x2048, .f32⟩
  | .hbm, ⟨113, _⟩ => ⟨S_, .f32⟩
  | .hbm, ⟨114, _⟩ => ⟨S8x8192x2048, .f32⟩
  | .hbm, ⟨115, _⟩ => ⟨S8x8192x2048, .f32⟩
  | .hbm, ⟨116, _⟩ => ⟨S8x8192x2048, .f32⟩
  | .hbm, ⟨117, _⟩ => ⟨S8x8192x2048, .f32⟩
  | .hbm, ⟨118, _⟩ => ⟨S1x2048x1024, .f32⟩
  | .hbm, ⟨119, _⟩ => ⟨S2048x1024, .f32⟩
  | .hbm, ⟨120, _⟩ => ⟨S8x8192x1024, .f32⟩
  | .hbm, ⟨121, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_c_5 : Ref sig .tc := ⟨.hbm, 56, rfl⟩
abbrev main_v42 : Ref sig .tc := ⟨.hbm, 57, rfl⟩
abbrev main_v43 : Ref sig .tc := ⟨.hbm, 58, rfl⟩
abbrev main_c_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_c_8 : Ref sig .tc := ⟨.hbm, 71, rfl⟩
abbrev main_v54 : Ref sig .tc := ⟨.hbm, 72, rfl⟩
abbrev main_v55 : Ref sig .tc := ⟨.hbm, 73, rfl⟩
abbrev main_c_9 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_c_11 : Ref sig .tc := ⟨.hbm, 86, rfl⟩
abbrev main_v66 : Ref sig .tc := ⟨.hbm, 87, rfl⟩
abbrev main_v67 : Ref sig .tc := ⟨.hbm, 88, rfl⟩
abbrev main_c_12 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_call0_v0 : Ref sig .tc := ⟨.hbm, 108, rfl⟩
abbrev main_call0_v1 : Ref sig .tc := ⟨.hbm, 109, rfl⟩
abbrev main_call0_cst : Ref sig .tc := ⟨.hbm, 110, rfl⟩
abbrev main_call0_v2 : Ref sig .tc := ⟨.hbm, 111, rfl⟩
abbrev main_call0_v3 : Ref sig .tc := ⟨.hbm, 112, rfl⟩
abbrev main_call0_cst_0 : Ref sig .tc := ⟨.hbm, 113, rfl⟩
abbrev main_call0_v4 : Ref sig .tc := ⟨.hbm, 114, rfl⟩
abbrev main_call0_v5 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]
-- ==== Proof.Pool.Spec.lean ====
module

public import Idealize.ShloMosaic.Lib.Pointwise

/-! The pool layer's mathematics over the extended reals, written with functions of plain indices: what the fused
    kernel and the plain reference are both shown to compute. -/

@[expose] public section

noncomputable section

namespace Cert.PoolSpec

open Idealize.ShloMosaic

/-- The layer's operands as functions: the stream `x` (batch, position, feature; zero past the sequence's end), the
    norm's weight `g`, the input projection `w`, the group projections `wg`, the per-feature scale `sc`, the output
    projection `wo` and the final norm's weight `fg`. -/
structure Args where
  x : ℕ → ℕ → Fin 1024 → EReal
  g : Fin 1024 → EReal
  w : Fin 1024 → Fin 4096 → EReal
  wg : ℕ → Fin 512 → Fin 512 → EReal
  sc : Fin 2048 → EReal
  wo : Fin 2048 → Fin 1024 → EReal
  fg : Fin 1024 → EReal

/-- The layer's operands from the program's argument arrays: the last layer's weights (rows 3 of the norm weights and
    of the output projections, rows 1 of the pool mixer's own). -/
def Args.of (x0 : (⟨3, ![8, 8192, 1024]⟩ : Shape).Idx → EReal) (x1 : (⟨2, ![4, 1024]⟩ : Shape).Idx → EReal)
    (x2 : (⟨1, ![1024]⟩ : Shape).Idx → EReal) (x3 : (⟨3, ![4, 2048, 1024]⟩ : Shape).Idx → EReal)
    (x4 : (⟨3, ![2, 1024, 4096]⟩ : Shape).Idx → EReal) (x5 : (⟨4, ![2, 4, 512, 512]⟩ : Shape).Idx → EReal)
    (x6 : (⟨2, ![2, 2048]⟩ : Shape).Idx → EReal) : Args where
  x b n k := if h : b < 8 ∧ n < 8192 then x0 (ix3 ⟨b, h.1⟩ ⟨n, h.2⟩ k) else 0
  g k := x1 (ix2 3 k)
  w k e := x4 (ix3 1 k e)
  wg γ c e := if h : γ < 4 then x5 (ix4 1 ⟨γ, h⟩ c e) else 0
  sc e := x6 (ix2 1 e)
  wo e d := x3 (ix3 3 e d)
  fg d := x2 (ix1 d)

/-- The root-mean-square norm of a token `v` with weight `g`: each feature times the reciprocal root of the mean
    square plus the norm's epsilon, times its weight. -/
def rms (v g : Fin 1024 → EReal) (k : Fin 1024) : EReal :=
  v k * Ideal.rsqrt (Ideal.div (∑ i : Fin 1024, v i * v i) (Ideal.ofBits .f32 0x44800000#32)
    + Ideal.ofBits .f32 0x3727C5AC#32) * g k

/-- A normed token's projection onto feature `e`. -/
def proj (v g : Fin 1024 → EReal) (w : Fin 1024 → Fin 4096 → EReal) (e : Fin 4096) : EReal :=
  ∑ k : Fin 1024, rms v g k * w k e

/-- The pooled half of the projection at batch `b`, position `n`, feature `c`. -/
def u (A : Args) (b n : ℕ) (c : Fin 2048) : EReal := proj (A.x b n) A.g A.w ⟨c, by omega⟩

/-- The gating half of the projection. -/
def gate (A : Args) (b n : ℕ) (c : Fin 2048) : EReal := proj (A.x b n) A.g A.w ⟨2048 + c, by omega⟩

/-- The pooled half behind sixteen rows of zeros: row `p` is position `p - 16`. -/
def upad (A : Args) (b p : ℕ) (c : Fin 2048) : EReal := if p < 16 then 0 else u A b (p - 16) c

/-- The number of positions a trailing window of `w` holds at position `n`, as a number. -/
def cnt (w n : ℕ) : EReal :=
  FloatOps.sitofp (F := Ideal) .f32 (IntOp.minsi (IntOp.addi (BitVec.ofNat 32 n) 1#32) (BitVec.ofNat 32 w))

/-- The group-projected difference `a` with column `wg`, scaled by `s` and gated by `g`'s sigmoid-weighted unit. -/
def zform (a wg : Fin 512 → EReal) (s g : EReal) : EReal :=
  (∑ c : Fin 512, a c * wg c) * s * Ideal.div g (1 + Ideal.exp (0 - g))

/-- Group `γ`'s trailing-window mean (window `2 ^ (γ + 1)`) minus the token itself, at the group's feature `c`. -/
def diff (A : Args) (b n : ℕ) (γ : ℕ) (hγ : γ < 4) (c : Fin 512) : EReal :=
  Ideal.div (∑ k ∈ Finset.range (2 ^ (γ + 1)), upad A b (n + 16 - k) ⟨512 * γ + c, by omega⟩) (cnt (2 ^ (γ + 1)) n)
    - u A b n ⟨512 * γ + c, by omega⟩

/-- The gated mixed feature `e`. -/
def z (A : Args) (b n : ℕ) (e : Fin 2048) : EReal :=
  zform (diff A b n (e / 512) (by omega)) (fun c => A.wg (e / 512) c ⟨e % 512, by omega⟩) (A.sc e) (gate A b n e)

/-- The layer's output stream at a token: the residual plus the mixed features' output projection. -/
def res (A : Args) (b n : ℕ) (d : Fin 1024) : EReal := A.x b n d + ∑ e : Fin 2048, z A b n e * A.wo e d

/-- The layer's output under the final norm. -/
def out (A : Args) (b n : ℕ) (d : Fin 1024) : EReal := rms (res A b n) A.fg d

end Cert.PoolSpec
-- ==== Proof.Pool.Pay.lean ====
module

public import proofs.«01_k».proof.Proof.Gen.PoolIdeal.Skeleton
public import proofs.«01_k».proof.Proof.Pool.Spec

/-! The kernel's stored values read at an index, as the layer's mathematics over the values it loaded. -/

@[expose] public section

set_option maxRecDepth 16384

noncomputable section

namespace Cert.PoolIdeal.Hand

open Cert.PoolIdeal Cert.PoolIdeal.Gen Cert.PoolSpec Idealize.ShloMosaic Idealize.ShloMosaic.TcCoe Idealize.SL.Sem

/-- The first sub-block's projection of its normed tokens. -/
theorem pay5_at (v6 : FVec Ideal S1x512x1024 .f32) (v8 : FVec Ideal S1x1024 .f32) (v23 : FVec Ideal S1024x4096 .bf16)
    (r : Fin 512) (e : Fin 4096) :
    k0_pay5 (F := Ideal) v6 v8 v23 (ix2 r e)
      = proj (fun k => v6 (ix3 0 r k)) (fun k => v8 (ix2 0 k)) (fun k e => v23 (ix2 k e)) e := by
  pointwise [k0_pay5, k0_pay4, proj, rms, zero_add]

/-- The second sub-block's projection is the same function. -/
theorem pay24_at (v6 : FVec Ideal S1x512x1024 .f32) (v8 : FVec Ideal S1x1024 .f32) (v23 : FVec Ideal S1024x4096 .bf16)
    (r : Fin 512) (e : Fin 4096) :
    k0_pay24 (F := Ideal) v6 v8 v23 (ix2 r e)
      = proj (fun k => v6 (ix3 0 r k)) (fun k => v8 (ix2 0 k)) (fun k e => v23 (ix2 k e)) e := by
  pointwise [k0_pay24, k0_pay23, proj, rms, zero_add]

/-- The trailing sum of `w` rows ending at row `p`. -/
def win (w : ℕ) (x : FVec Ideal S528x512 .f32) (p : ℕ) (hp : p < 528) (c : Fin 512) : EReal :=
  ∑ k ∈ Finset.range w, x (ix2 ⟨p - k, by omega⟩ c)

/-- A window of one row is the row. -/
theorem win_one (x : FVec Ideal S528x512 .f32) (p : ℕ) (hp : p < 528) (c : Fin 512) :
    1 ≤ p + 1 → x (ix2 ⟨p, hp⟩ c) = win 1 x p hp c := by
  intro _; simp [win]

/-- Adding a window's sums to themselves rolled down by the window's length doubles the window. -/
theorem win_double (w : ℕ) (s : BitVec 32) (hs : s.toNat = w) (x y : FVec Ideal S528x512 .f32) (h : S528x512.Rotates 0 none)
    (hy : ∀ p hp c, w ≤ p + 1 → y (ix2 ⟨p, hp⟩ c) = win w x p hp c) (p : ℕ) (hp : p < 528) (c : Fin 512) (hw : 2 * w ≤ p + 1) :
    addf y (dynamicRotate (s := S528x512) 0 s none y h) (ix2 ⟨p, hp⟩ c) = win (2 * w) x p hp c := by
  rcases Nat.eq_zero_or_pos w with rfl | hw0
  · have h0 := hy p hp c (Nat.zero_le _)
    have : dynamicRotate (s := S528x512) 0 s none y h (ix2 ⟨p, hp⟩ c) = y (ix2 ⟨p, hp⟩ c) := by
      pointwise
      have e : (p + 528 - s.toNat % 528) % 528 = p := by omega
      simp only [e]
    show y (ix2 ⟨p, hp⟩ c) + dynamicRotate (s := S528x512) 0 s none y h (ix2 ⟨p, hp⟩ c) = _
    rw [this, h0]; simp [win]
  · have : dynamicRotate (s := S528x512) 0 s none y h (ix2 ⟨p, hp⟩ c) = y (ix2 ⟨p - w, by omega⟩ c) := by
      pointwise
      have e : (p + 528 - s.toNat % 528) % 528 = p - w := by omega
      simp only [e]
    show y (ix2 ⟨p, hp⟩ c) + dynamicRotate (s := S528x512) 0 s none y h (ix2 ⟨p, hp⟩ c) = _
    rw [this, hy p hp c (by omega), hy (p - w) _ c (by omega), Nat.two_mul, win, win, win, Finset.sum_range_add]
    refine congrArg _ (Finset.sum_congr rfl fun k _ => ?_)
    simp only [Nat.sub_sub]

/-- One sub-block's gated mixed feature of a group with window `w`, over the loaded rows `x`. -/
def zpay (w : ℕ) (x : FVec Ideal S528x512 .f32) (n : BitVec 32) (wg : FVec Ideal S1x512x512 .bf16) (sc : FVec Ideal S1x512 .f32)
    (g : EReal) (r e : Fin 512) : EReal :=
  zform (fun c => Ideal.div (win w x (16 + r) (by omega) c)
      (FloatOps.sitofp (F := Ideal) .f32 (IntOp.minsi (IntOp.addi n 1#32) (BitVec.ofNat 32 w)))
    - x (ix2 ⟨16 + r, by omega⟩ c)) (fun c => wg (ix3 0 c e)) (sc (ix2 0 e)) g

section rolls
variable (x : FVec Ideal S528x512 .f32) (h : S528x512.Rotates 0 none)

/-- Rows added to themselves rolled down by `s`. -/
abbrev rolled (s : BitVec 32) (y : FVec Ideal S528x512 .f32) : FVec Ideal S528x512 .f32 :=
  addf (F := Ideal) y (dynamicRotate (s := S528x512) 0 s none y h)

include x in
/-- Two, four, eight and sixteen rows by repeated doubling. -/
theorem rolls (p : ℕ) (hp : p < 528) (c : Fin 512) :
    (2 ≤ p + 1 → rolled h 1#32 x (ix2 ⟨p, hp⟩ c) = win 2 x p hp c)
    ∧ (4 ≤ p + 1 → rolled h 2#32 (rolled h 1#32 x) (ix2 ⟨p, hp⟩ c) = win 4 x p hp c)
    ∧ (8 ≤ p + 1 → rolled h 4#32 (rolled h 2#32 (rolled h 1#32 x)) (ix2 ⟨p, hp⟩ c) = win 8 x p hp c)
    ∧ (16 ≤ p + 1 → rolled h 8#32 (rolled h 4#32 (rolled h 2#32 (rolled h 1#32 x))) (ix2 ⟨p, hp⟩ c) = win 16 x p hp c) :=
  have h2 := win_double 1 1#32 rfl x x h (win_one x)
  have h4 := win_double 2 2#32 rfl x _ h h2
  have h8 := win_double 4 4#32 rfl x _ h h4
  ⟨h2 p hp c, h4 p hp c, h8 p hp c, win_double 8 8#32 rfl x _ h h8 p hp c⟩
end rolls

variable (v25 : FVec Ideal S512x4096 .f32) (v34 : IVec S512x1 32) (x : FVec Ideal S528x512 .f32)
  (wg : FVec Ideal S1x512x512 .bf16) (sc : FVec Ideal S1x512 .f32) (r e : Fin 512)

/-- First sub-block, first group. -/
theorem z0_at : k0_pay8 (F := Ideal) v25 v34 x wg sc (ix2 r e) = zpay 2 x (v34 (ix2 r 0)) wg sc (v25 (ix2 r ⟨2048 + e, by omega⟩)) r e := by
  have hr := fun c : Fin 512 => (rolls x rotates_S528x512_d0 (16 + r) (by omega) c).1 (by omega)
  revert hr
  unfold k0_pay8
  dsimp only [rolled]
  generalize addf (F := Ideal) _ (dynamicRotate (s := S528x512) 0 1#32 none _ rotates_S528x512_d0) = y
  intro hr
  pointwise [zpay, zform, zero_add]
  simp only [hr]

/-- First sub-block, second group. -/
theorem z1_at : k0_pay11 (F := Ideal) v25 v34 (k0_pay9 x) (k0_pay10 x) 1#32 wg sc (ix2 r e) = zpay 4 x (v34 (ix2 r 0)) wg sc (v25 (ix2 r ⟨2560 + e, by omega⟩)) r e := by
  have hr := fun c : Fin 512 => (rolls x rotates_S528x512_d0 (16 + r) (by omega) c).2.1 (by omega)
  revert hr
  unfold k0_pay11 k0_pay9 k0_pay10
  dsimp only [rolled]
  generalize addf (F := Ideal) _ (dynamicRotate (s := S528x512) 0 2#32 none _ rotates_S528x512_d0) = y
  intro hr
  pointwise [zpay, zform, zero_add]
  simp only [hr]

/-- First sub-block, third group. -/
theorem z2_at : k0_pay15 (F := Ideal) v25 (k0_pay12 x) (k0_pay13 x) (k0_pay14 v34) wg sc (ix2 r e) = zpay 8 x (v34 (ix2 r 0)) wg sc (v25 (ix2 r ⟨3072 + e, by omega⟩)) r e := by
  have hr := fun c : Fin 512 => (rolls x rotates_S528x512_d0 (16 + r) (by omega) c).2.2.1 (by omega)
  revert hr
  unfold k0_pay15 k0_pay12 k0_pay13 k0_pay14
  dsimp only [rolled]
  generalize addf (F := Ideal) _ (dynamicRotate (s := S528x512) 0 4#32 none _ rotates_S528x512_d0) = y
  intro hr
  pointwise [zpay, zform, zero_add]
  simp only [hr]

/-- First sub-block, fourth group. -/
theorem z3_at : k0_pay19 (F := Ideal) v25 (k0_pay16 x) (k0_pay17 x) (k0_pay18 v34) wg sc (ix2 r e) = zpay 16 x (v34 (ix2 r 0)) wg sc (v25 (ix2 r ⟨3584 + e, by omega⟩)) r e := by
  have hr := fun c : Fin 512 => (rolls x rotates_S528x512_d0 (16 + r) (by omega) c).2.2.2 (by omega)
  revert hr
  unfold k0_pay19 k0_pay16 k0_pay17 k0_pay18
  dsimp only [rolled]
  generalize addf (F := Ideal) _ (dynamicRotate (s := S528x512) 0 8#32 none _ rotates_S528x512_d0) = y
  intro hr
  pointwise [zpay, zform, zero_add]
  simp only [hr]

/-- Second sub-block, first group. -/
theorem y0_at : k0_pay28 (F := Ideal) v25 v34 x (k0_pay27 x) wg sc (ix2 r e) = zpay 2 x (v34 (ix2 r 0)) wg sc (v25 (ix2 r ⟨2048 + e, by omega⟩)) r e := by
  have hr := fun c : Fin 512 => (rolls x rotates_S528x512_d0 (16 + r) (by omega) c).1 (by omega)
  revert hr
  unfold k0_pay28 k0_pay27
  dsimp only [rolled]
  generalize addf (F := Ideal) _ (dynamicRotate (s := S528x512) 0 1#32 none _ rotates_S528x512_d0) = y
  intro hr
  pointwise [zpay, zform, zero_add]
  simp only [hr]

/-- Second sub-block, second group. -/
theorem y1_at : k0_pay32 (F := Ideal) v25 (k0_pay29 x) (k0_pay30 x) (k0_pay31 v34) wg sc (ix2 r e) = zpay 4 x (v34 (ix2 r 0)) wg sc (v25 (ix2 r ⟨2560 + e, by omega⟩)) r e := by
  have hr := fun c : Fin 512 => (rolls x rotates_S528x512_d0 (16 + r) (by omega) c).2.1 (by omega)
  revert hr
  unfold k0_pay32 k0_pay29 k0_pay30 k0_pay31
  dsimp only [rolled]
  generalize addf (F := Ideal) _ (dynamicRotate (s := S528x512) 0 2#32 none _ rotates_S528x512_d0) = y
  intro hr
  pointwise [zpay, zform, zero_add]
  simp only [hr]

/-- Second sub-block, third group. -/
theorem y2_at : k0_pay34 (F := Ideal) v25 (k0_pay33 v34 x) wg sc (ix2 r e) = zpay 8 x (v34 (ix2 r 0)) wg sc (v25 (ix2 r ⟨3072 + e, by omega⟩)) r e := by
  have hr := fun c : Fin 512 => (rolls x rotates_S528x512_d0 (16 + r) (by omega) c).2.2.1 (by omega)
  revert hr
  unfold k0_pay34 k0_pay33
  dsimp only [rolled]
  generalize addf (F := Ideal) _ (dynamicRotate (s := S528x512) 0 4#32 none _ rotates_S528x512_d0) = y
  intro hr
  pointwise [zpay, zform, zero_add]
  simp only [hr]

/-- Second sub-block, fourth group. -/
theorem y3_at : k0_pay36 (F := Ideal) v25 (k0_pay35 v34 x) wg sc (ix2 r e) = zpay 16 x (v34 (ix2 r 0)) wg sc (v25 (ix2 r ⟨3584 + e, by omega⟩)) r e := by
  have hr := fun c : Fin 512 => (rolls x rotates_S528x512_d0 (16 + r) (by omega) c).2.2.2 (by omega)
  revert hr
  unfold k0_pay36 k0_pay35
  dsimp only [rolled]
  generalize addf (F := Ideal) _ (dynamicRotate (s := S528x512) 0 8#32 none _ rotates_S528x512_d0) = y
  intro hr
  pointwise [zpay, zform, zero_add]
  simp only [hr]

end Cert.PoolIdeal.Hand
-- ==== Proof.Pool.Blocks.lean ====
module

public import proofs.«01_k».proof.Proof.Gen.PoolIdeal.Value
public import proofs.«01_k».proof.Proof.Pool.Pay
public import Idealize.ShloMosaic.Lib.Pipeline.ValueKit

/-! The kernel's input blocks as the layer's operands, and one sub-block's values over them. -/

@[expose] public section

set_option maxRecDepth 16384

noncomputable section

namespace Cert.PoolIdeal.Hand

open Cert.PoolIdeal Cert.PoolIdeal.Gen Cert.PoolSpec Idealize.ShloMosaic Idealize.ShloMosaic.TcCoe Idealize.SL.Sem
open Idealize.ShloMosaic.Pipeline (Dat)

variable (m : (ℓ : Loc nD τ sig) → Buf (Elt Ideal) ℓ)

/-- The layer's operands in the launched memory. -/
def args (c : Dev nD) : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The windows' index maps at a grid point. -/
theorem idx : ∀ t : Fin cfg0.N, win0_0.index t = ![t.val / 8, t.val % 8, 0] ∧ win0_1.index t = ![0, 0] ∧ win0_2.index t = ![0, 0]
    ∧ win0_3.index t = ![0, 0, 0] ∧ win0_4.index t = ![0, 0] ∧ win0_5.index t = ![0, 0] ∧ win0_6.index t = ![0, 0]
    ∧ win0_7.index t = ![t.val / 8, t.val % 8, 0] ∧ (grid0.coords t 1).val = t.val % 8 ∧ t.val / 8 < 8 :=
  (by decide +kernel : ∀ t : Fin grid0.N, _)

theorem blk0 (c : Dev nD) (t : Fin cfg0.N) (r k : Fin 1024) :
    iblk m c 0 t (ix3 0 r k) = (args m c).x (t.val / 8) (1024 * (t.val % 8) + r) k := by
  have h := (idx t).2.2.2.2.2.2.2.2.2
  unfold args Args.of; dsimp only
  rw [dif_pos (show t.val / 8 < 8 ∧ 1024 * (t.val % 8) + r.val < 8192 by omega)]
  blk_ext [iblk, V, idx t]

theorem blk1 (c : Dev nD) (t : Fin cfg0.N) (k : Fin 1024) : iblk m c 1 t (ix2 0 k) = (args m c).g k := by
  unfold args Args.of; dsimp only
  blk_point [iblk, V, idx t]

theorem blk2 (c : Dev nD) (t : Fin cfg0.N) (k : Fin 1024) (e : Fin 4096) : iblk m c 2 t (ix2 k e) = (args m c).w k e := by
  unfold args Args.of; dsimp only
  blk_point [iblk, V, idx t]

theorem blk3 (c : Dev nD) (t : Fin cfg0.N) (γ : Fin 4) (k e : Fin 512) : iblk m c 3 t (ix3 γ k e) = (args m c).wg γ k e := by
  unfold args Args.of; dsimp only
  rw [dif_pos γ.isLt]
  blk_point [iblk, V, idx t]

theorem blk4 (c : Dev nD) (t : Fin cfg0.N) (e : Fin 2048) : iblk m c 4 t (ix2 0 e) = (args m c).sc e := by
  unfold args Args.of; dsimp only
  blk_point [iblk, V, idx t]

theorem blk5 (c : Dev nD) (t : Fin cfg0.N) (e : Fin 2048) (d : Fin 1024) : iblk m c 5 t (ix2 e d) = (args m c).wo e d := by
  unfold args Args.of; dsimp only
  blk_point [iblk, V, idx t]

theorem blk6 (c : Dev nD) (t : Fin cfg0.N) (d : Fin 1024) : iblk m c 6 t (ix2 0 d) = (args m c).fg d := by
  unfold args Args.of; dsimp only
  blk_point [iblk, V, idx t]

/-- The difference depends on the group's number alone. -/
theorem diff_congr (A : Args) (b n : ℕ) {γ γ' : ℕ} (h : γ' = γ) (hγ' : γ' < 4) (hγ : γ < 4) :
    diff A b n γ' hγ' = diff A b n γ hγ := by
  subst h; rfl

/-- One sub-block's gated mixed feature of group `γ`, where the loaded rows hold the pooled half from sixteen rows before
    position `n0` on, is the layer's feature `512 γ + e` at the position. -/
theorem zpay_eq (A : Args) (b n0 γ w : ℕ) (hγ : γ < 4) (hw : w = 2 ^ (γ + 1)) (x : FVec Ideal S528x512 .f32)
    (hx : ∀ p (hp : p < 528) (c : Fin 512), x (ix2 ⟨p, hp⟩ c) = upad A b (n0 + p) ⟨512 * γ + c, by omega⟩)
    (n : BitVec 32) (wg : FVec Ideal S1x512x512 .bf16) (sc : FVec Ideal S1x512 .f32) (g : EReal) (r e : Fin 512)
    (hn : n = BitVec.ofNat 32 (n0 + r)) (hwg : ∀ c, wg (ix3 0 c e) = A.wg γ c e)
    (hsc : sc (ix2 0 e) = A.sc ⟨512 * γ + e, by omega⟩) (hg : g = gate A b (n0 + r) ⟨512 * γ + e, by omega⟩) :
    zpay w x n wg sc g r e = z A b (n0 + r) ⟨512 * γ + e, by omega⟩ := by
  subst hw hn hg
  unfold zpay z
  have hdiv : (512 * γ + e.val) / 512 = γ := by omega
  have hmod : (512 * γ + e.val) % 512 = e := by omega
  have hd : diff A b (n0 + r) ((512 * γ + e.val) / 512) (by omega) = diff A b (n0 + r) γ hγ :=
    diff_congr A b _ hdiv _ _
  dsimp only
  rw [hd]
  simp only [hdiv, hmod, hsc, hwg]
  refine congrArg (fun a => zform a _ _ _) (funext fun c => ?_)
  unfold diff win
  refine congrArg₂ (· - ·) (congrArg (fun s => Ideal.div s (cnt (2 ^ (γ + 1)) (n0 + r))) (Finset.sum_congr rfl fun k hk => ?_)) ?_
  · have hk' : k < 2 ^ (γ + 1) := Finset.mem_range.1 hk
    have : (2 : ℕ) ^ (γ + 1) ≤ 2 ^ 4 := Nat.pow_le_pow_right (by omega) (by omega)
    rw [hx]
    have : n0 + (16 + r.val - k) = n0 + r + 16 - k := by omega
    rw [this]
  · rw [hx]
    unfold upad
    have : n0 + (16 + r.val) - 16 = n0 + r := by omega
    rw [if_neg (by omega), this]

/-- One sub-block's output token from its row of the stream and its mixed features. -/
def outpay (x : FVec Ideal S1x512x1024 .f32) (zb : FVec Ideal S512x2048 .bf16) (wo : FVec Ideal S2048x1024 .bf16)
    (fg : FVec Ideal S1x1024 .f32) (r : Fin 512) (d : Fin 1024) : EReal :=
  rms (fun d => x (ix3 0 r d) + ∑ e : Fin 2048, zb (ix2 r e) * wo (ix2 e d)) (fun d => fg (ix2 0 d)) d

theorem out0_at (x : FVec Ideal S1x512x1024 .f32) (zb : FVec Ideal S512x2048 .bf16) (wo : FVec Ideal S2048x1024 .bf16)
    (fg : FVec Ideal S1x1024 .f32) (r : Fin 512) (d : Fin 1024) :
    k0_pay22 (F := Ideal) (k0_pay20 fg) (k0_pay21 (k0_pay4 x) zb wo) (ix3 0 r d) = outpay x zb wo fg r d := by
  pointwise [k0_pay22, k0_pay20, k0_pay21, k0_pay4, outpay, rms, zero_add]

theorem out1_at (x : FVec Ideal S1x512x1024 .f32) (zb : FVec Ideal S512x2048 .bf16) (wo : FVec Ideal S2048x1024 .bf16)
    (fg : FVec Ideal S1x1024 .f32) (r : Fin 512) (d : Fin 1024) :
    k0_pay1 (F := Ideal) (k0_pay37 (k0_pay23 x) zb wo fg) (ix3 0 r d) = outpay x zb wo fg r d := by
  pointwise [k0_pay1, k0_pay37, k0_pay23, outpay, rms, zero_add]

/-- … which is the layer's output where the operands are the layer's. -/
theorem outpay_eq (A : Args) (b n : ℕ) (x : FVec Ideal S1x512x1024 .f32) (zb : FVec Ideal S512x2048 .bf16)
    (wo : FVec Ideal S2048x1024 .bf16) (fg : FVec Ideal S1x1024 .f32) (r : Fin 512) (d : Fin 1024)
    (hx : ∀ d, x (ix3 0 r d) = A.x b n d) (hz : ∀ e, zb (ix2 r e) = z A b n e) (hwo : ∀ e d, wo (ix2 e d) = A.wo e d)
    (hfg : ∀ d, fg (ix2 0 d) = A.fg d) : outpay x zb wo fg r d = out A b n d := by
  unfold outpay out
  simp only [hx, hz, hwo, hfg]
  rfl

end Cert.PoolIdeal.Hand
-- ==== Proof.Pool.Canon.lean ====
module

public import Idealize.ShloMosaic.Lib.Pipeline.ValueKit

/-! Stores into and loads from a matrix buffer, read at a row and a column. -/

@[expose] public section

noncomputable section

namespace Cert.Mat

open Idealize.ShloMosaic Idealize.SL.Sem

variable {Val : EltTy → Type} [∀ e, Nonempty (Val e)] {e : EltTy} {N W : ℕ}

/-- The last store's rectangle holds its payload; outside it the earlier stores show. -/
theorem canon_at (o p n w : ℕ) (inb : ∀ a, (![o, p] : Fin 2 → ℕ) a + (![n, w] : Fin 2 → ℕ) a ≤ (⟨2, ![N, W]⟩ : Shape).size a)
    (f : (⟨2, ![n, w]⟩ : Shape).Idx → Val e) (L : List (View.Piece Val (⟨2, ![N, W]⟩ : Shape) e)) (i : Fin N) (j : Fin W) :
    View.canon ((⟨Rect.unit (s := ⟨2, ![N, W]⟩) ![o, p] ![n, w] inb, f⟩ : View.Piece Val (⟨2, ![N, W]⟩ : Shape) e) :: L) (ix2 i j)
      = if h : (o ≤ i.val ∧ i.val < o + n) ∧ (p ≤ j.val ∧ j.val < p + w) then
          f (ix2 ⟨i - o, by omega⟩ ⟨j - p, by omega⟩)
        else View.canon L (ix2 i j) := by
  split
  · next h =>
    have hx : (Rect.unit (s := ⟨2, ![N, W]⟩) ![o, p] ![n, w] inb).emb (ix2 ⟨i - o, by omega⟩ ⟨j - p, by omega⟩) = ix2 i j := by
      funext a
      refine Fin.ext ?_
      rw [Rect.emb_apply]
      match a with
      | ⟨0, _⟩ => show o + 1 * (i.val - o) = i.val; omega
      | ⟨1, _⟩ => show p + 1 * (j.val - p) = j.val; omega
    conv_lhs => rw [← hx]
    exact View.canon_cons_emb (Rect.unit (s := ⟨2, ![N, W]⟩) ![o, p] ![n, w] inb) f L _
  · next h =>
    refine View.canon_cons_of_not_mem _ L fun hm => h ?_
    have := (Rect.mem_set_unit (inb := inb)).mp hm
    exact ⟨this 0, this 1⟩

/-- A load reads the stores at its rectangle's place. -/
theorem readCov_at {sig : RefSig} {κ : Kind} {sp : Space} (v : View sig κ sp (⟨2, ![N, W]⟩ : Shape) e) (o p n w : ℕ)
    (inb : ∀ a, (![o, p] : Fin 2 → ℕ) a + (![n, w] : Fin 2 → ℕ) a ≤ (⟨2, ![N, W]⟩ : Shape).size a)
    (L : List (View.Piece Val (⟨2, ![N, W]⟩ : Shape) e)) (i : Fin n) (j : Fin w) :
    v.readCov L (Rect.unit (s := ⟨2, ![N, W]⟩) ![o, p] ![n, w] inb).toLoadRect (ix2 i j)
      = View.canon L (ix2 ⟨o + i, by have := inb 0; change o + n ≤ N at this; omega⟩
          ⟨p + j, by have := inb 1; change p + w ≤ W at this; omega⟩) := by
  rw [View.readCov_eq_canon']
  refine congrArg (View.canon L) (funext fun a => Fin.ext ?_)
  match a with
  | ⟨0, _⟩ => show o + 1 * i.val = o + i.val; omega
  | ⟨1, _⟩ => show p + 1 * j.val = p + j.val; omega

end Cert.Mat
-- ==== Proof.Pool.Points.lean ====
module

public import proofs.«01_k».proof.Proof.Pool.Blocks
public import proofs.«01_k».proof.Proof.Pool.Canon

/-! What each grid point leaves in the carried rows and in its output block. -/

@[expose] public section

set_option maxRecDepth 16384

noncomputable section

namespace Cert.PoolIdeal.Hand

open Cert.PoolIdeal Cert.PoolIdeal.Gen Cert.PoolSpec Idealize.ShloMosaic Idealize.ShloMosaic.TcCoe Idealize.SL.Sem
open Idealize.ShloMosaic.Pipeline (Dat)

variable (m : (ℓ : Loc nD τ sig) → Buf (Elt Ideal) ℓ)

/-- A stored pooled row of either sub-block (`n0` the sub-block's first position). -/
theorem urow (A : Args) (b n0 : ℕ) (x : FVec Ideal S1x512x1024 .f32) (g : FVec Ideal S1x1024 .f32) (w : FVec Ideal S1024x4096 .bf16)
    (hx : ∀ r k, x (ix3 0 r k) = A.x b (n0 + r.val) k) (hg : ∀ k, g (ix2 0 k) = A.g k) (hw : ∀ k e, w (ix2 k e) = A.w k e)
    (r : Fin 512) (e : Fin 2048) :
    k0_pay6 (F := Ideal) x g w (ix2 r e) = u A b (n0 + r) e ∧ k0_pay25 (F := Ideal) x g w (ix2 r e) = u A b (n0 + r) e := by
  constructor
  · refine Eq.trans (b := k0_pay5 (F := Ideal) x g w (ix2 r ⟨e, by omega⟩)) ?_ ?_
    · pointwise [k0_pay6]
    · rw [pay5_at]; simp only [hx, hg, hw, u]
  · refine Eq.trans (b := k0_pay24 (F := Ideal) x g w (ix2 r ⟨e, by omega⟩)) ?_ ?_
    · pointwise [k0_pay25]
    · rw [pay24_at]; simp only [hx, hg, hw, u]

/-- What the carried rows hold after point `n`: row `p` is the padded pooled half's row `p` from the point's first position on. -/
def Carried (A : Args) (n : ℕ) (S : Vec Ideal S1040x2048 .f32) : Prop :=
  ∀ (p : Fin 1040) (e : Fin 2048), S (ix2 p e) = upad A (n / 8) (1024 * (n % 8) + p) e

/-- The rows behind the first sub-block's store: the sixteen carried ones `H` and the sub-block's own. -/
theorem rows2 (A : Args) (b n0 : ℕ) (U0 : FVec Ideal S512x2048 .f32) (H : FVec Ideal S16x2048 .f32)
    (i0 : ∀ a, (![16, 0] : Fin 2 → ℕ) a + (![512, 2048] : Fin 2 → ℕ) a ≤ S1040x2048.size a)
    (i1 : ∀ a, (![0, 0] : Fin 2 → ℕ) a + (![16, 2048] : Fin 2 → ℕ) a ≤ S1040x2048.size a)
    (hU : ∀ (r : Fin 512) (e : Fin 2048), U0 (ix2 r e) = u A b (n0 + r) e)
    (hH : ∀ (r : Fin 16) (e : Fin 2048), H (ix2 r e) = upad A b (n0 + r) e)
    (p : Fin 1040) (hp : p.val < 528) (e : Fin 2048) :
    View.canon (Val := Elt Ideal) (s := S1040x2048) (e := .f32)
      [⟨Rect.unit (s := S1040x2048) ![16, 0] ![512, 2048] i0, U0⟩, ⟨Rect.unit (s := S1040x2048) ![0, 0] ![16, 2048] i1, H⟩] (ix2 p e)
      = upad A b (n0 + p) e := by
  rw [Cert.Mat.canon_at, Cert.Mat.canon_at]
  by_cases h : p.val < 16
  · rw [dif_neg (by omega), dif_pos (by omega), hH]; rfl
  · rw [dif_pos (by omega), hU, upad, if_neg (by omega)]
    have : n0 + (p.val - 16) = n0 + p - 16 := by omega
    exact congrArg (fun n => u A b n e) this

/-- The rows behind the second sub-block's store. -/
theorem rows3 (A : Args) (b n0 : ℕ) (U1 U0 : FVec Ideal S512x2048 .f32) (H : FVec Ideal S16x2048 .f32)
    (i2 : ∀ a, (![528, 0] : Fin 2 → ℕ) a + (![512, 2048] : Fin 2 → ℕ) a ≤ S1040x2048.size a)
    (i0 : ∀ a, (![16, 0] : Fin 2 → ℕ) a + (![512, 2048] : Fin 2 → ℕ) a ≤ S1040x2048.size a)
    (i1 : ∀ a, (![0, 0] : Fin 2 → ℕ) a + (![16, 2048] : Fin 2 → ℕ) a ≤ S1040x2048.size a)
    (hU1 : ∀ (r : Fin 512) (e : Fin 2048), U1 (ix2 r e) = u A b (n0 + 512 + r) e)
    (hU : ∀ (r : Fin 512) (e : Fin 2048), U0 (ix2 r e) = u A b (n0 + r) e)
    (hH : ∀ (r : Fin 16) (e : Fin 2048), H (ix2 r e) = upad A b (n0 + r) e)
    (p : Fin 1040) (e : Fin 2048) :
    View.canon (Val := Elt Ideal) (s := S1040x2048) (e := .f32)
      [⟨Rect.unit (s := S1040x2048) ![528, 0] ![512, 2048] i2, U1⟩, ⟨Rect.unit (s := S1040x2048) ![16, 0] ![512, 2048] i0, U0⟩,
        ⟨Rect.unit (s := S1040x2048) ![0, 0] ![16, 2048] i1, H⟩] (ix2 p e)
      = upad A b (n0 + p) e := by
  rw [Cert.Mat.canon_at]
  by_cases h : p.val < 528
  · rw [dif_neg (by omega)]
    exact rows2 A b n0 U0 H i0 i1 hU hH p h e
  · rw [dif_pos (by omega), hU1, upad, if_neg (by omega)]
    have : n0 + 512 + (p.val - 528) = n0 + p - 16 := by omega
    exact congrArg (fun n => u A b n e) this

/-- The four groups' stores of a sub-block, read at any of its features, whatever was stored before them. -/
theorem cols4 (A : Args) (b n0 o : ℕ) (Z3 Z2 Z1 Z0 : FVec Ideal S512x512 .bf16)
    (i3 : ∀ a, (![o, 1536] : Fin 2 → ℕ) a + (![512, 512] : Fin 2 → ℕ) a ≤ S1024x2048.size a)
    (i2 : ∀ a, (![o, 1024] : Fin 2 → ℕ) a + (![512, 512] : Fin 2 → ℕ) a ≤ S1024x2048.size a)
    (i1 : ∀ a, (![o, 512] : Fin 2 → ℕ) a + (![512, 512] : Fin 2 → ℕ) a ≤ S1024x2048.size a)
    (i0 : ∀ a, (![o, 0] : Fin 2 → ℕ) a + (![512, 512] : Fin 2 → ℕ) a ≤ S1024x2048.size a)
    (L : List (View.Piece (Elt Ideal) S1024x2048 .bf16))
    (h3 : ∀ r e : Fin 512, Z3 (ix2 r e) = z A b (n0 + r) ⟨512 * 3 + e, by omega⟩)
    (h2 : ∀ r e : Fin 512, Z2 (ix2 r e) = z A b (n0 + r) ⟨512 * 2 + e, by omega⟩)
    (h1 : ∀ r e : Fin 512, Z1 (ix2 r e) = z A b (n0 + r) ⟨512 * 1 + e, by omega⟩)
    (h0 : ∀ r e : Fin 512, Z0 (ix2 r e) = z A b (n0 + r) ⟨512 * 0 + e, by omega⟩)
    (p : Fin 1024) (r : Fin 512) (hp : p.val = o + r) (e : Fin 2048) :
    View.canon (Val := Elt Ideal) (s := S1024x2048) (e := .bf16)
      (⟨Rect.unit (s := S1024x2048) ![o, 1536] ![512, 512] i3, Z3⟩ :: ⟨Rect.unit (s := S1024x2048) ![o, 1024] ![512, 512] i2, Z2⟩
        :: ⟨Rect.unit (s := S1024x2048) ![o, 512] ![512, 512] i1, Z1⟩ :: ⟨Rect.unit (s := S1024x2048) ![o, 0] ![512, 512] i0, Z0⟩ :: L)
      (ix2 p e) = z A b (n0 + r) e := by
  have hr : p.val - o = r := by omega
  rw [Cert.Mat.canon_at, Cert.Mat.canon_at, Cert.Mat.canon_at, Cert.Mat.canon_at]
  by_cases a3 : 1536 ≤ e.val
  · rw [dif_pos (by omega), h3]
    exact congr (congrArg (fun n => z A b (n0 + n)) hr) (Fin.ext (by simp only; omega))
  by_cases a2 : 1024 ≤ e.val
  · rw [dif_neg (by omega), dif_pos (by omega), h2]
    exact congr (congrArg (fun n => z A b (n0 + n)) hr) (Fin.ext (by simp only; omega))
  by_cases a1 : 512 ≤ e.val
  · rw [dif_neg (by omega), dif_neg (by omega), dif_pos (by omega), h1]
    exact congr (congrArg (fun n => z A b (n0 + n)) hr) (Fin.ext (by simp only; omega))
  · rw [dif_neg (by omega), dif_neg (by omega), dif_neg (by omega), dif_pos (by omega), h0]
    exact congr (congrArg (fun n => z A b (n0 + n)) hr) (Fin.ext (by simp only; omega))

section staged
variable {A : Args} {b n0 : ℕ}

/-- The staged tokens of the first sub-block … -/
theorem tok0 {B : FVec Ideal S1x1024x1024 .f32} (h : ∀ r k : Fin 1024, B (ix3 0 r k) = A.x b (n0 + r) k) (r : Fin 512) (k : Fin 1024) :
    View.ld (Val := Elt Ideal) (e' := .f32) B (Rect.unit (s := S1x1024x1024) ![0, 0, 0] ![1, 512, 1024] inb_S1x1024x1024_S1x512x1024_0_0_0) (ix3 0 r k) = A.x b (n0 + r) k := by
  have e : View.ld (Val := Elt Ideal) (e' := .f32) B (Rect.unit (s := S1x1024x1024) ![0, 0, 0] ![1, 512, 1024] inb_S1x1024x1024_S1x512x1024_0_0_0) (ix3 0 r k)
      = B (ix3 0 ⟨r, by omega⟩ k) := by pointwise
  rw [e, h]

/-- … and of the second. -/
theorem tok1 {B : FVec Ideal S1x1024x1024 .f32} (h : ∀ r k : Fin 1024, B (ix3 0 r k) = A.x b (n0 + r) k) (r : Fin 512) (k : Fin 1024) :
    View.ld (Val := Elt Ideal) (e' := .f32) B (Rect.unit (s := S1x1024x1024) ![0, 512, 0] ![1, 512, 1024] inb_S1x1024x1024_S1x512x1024_0_512_0) (ix3 0 r k)
      = A.x b (n0 + 512 + r) k := by
  have e : View.ld (Val := Elt Ideal) (e' := .f32) B (Rect.unit (s := S1x1024x1024) ![0, 512, 0] ![1, 512, 1024] inb_S1x1024x1024_S1x512x1024_0_512_0) (ix3 0 r k)
      = B (ix3 0 ⟨512 + r, by omega⟩ k) := by pointwise
  rw [e, h, Nat.add_assoc]

/-- A group's staged projection. -/
theorem grp {B : FVec Ideal S4x512x512 .bf16} (h : ∀ (γ : Fin 4) (k e : Fin 512), B (ix3 γ k e) = A.wg γ k e) (γ : ℕ) (hγ : γ < 4)
    (i : ∀ a, (![γ, 0, 0] : Fin 3 → ℕ) a + (![1, 512, 512] : Fin 3 → ℕ) a ≤ S4x512x512.size a) (k e : Fin 512) :
    View.ld (Val := Elt Ideal) (e' := .bf16) B (Rect.unit (s := S4x512x512) ![γ, 0, 0] ![1, 512, 512] i) (ix3 0 k e) = A.wg γ k e := by
  have e : View.ld (Val := Elt Ideal) (e' := .bf16) B (Rect.unit (s := S4x512x512) ![γ, 0, 0] ![1, 512, 512] i) (ix3 0 k e) = B (ix3 ⟨γ, hγ⟩ k e) := by pointwise
  rw [e, h]

/-- A group's staged scales. -/
theorem scl {B : FVec Ideal S1x2048 .f32} (h : ∀ e : Fin 2048, B (ix2 0 e) = A.sc e) (o : ℕ) (ho : o + 512 ≤ 2048)
    (i : ∀ a, (![0, o] : Fin 2 → ℕ) a + (![1, 512] : Fin 2 → ℕ) a ≤ S1x2048.size a) (e : Fin 512) :
    View.ld (Val := Elt Ideal) (e' := .f32) B (Rect.unit (s := S1x2048) ![0, o] ![1, 512] i) (ix2 0 e) = A.sc ⟨o + e, by omega⟩ := by
  have e' : View.ld (Val := Elt Ideal) (e' := .f32) B (Rect.unit (s := S1x2048) ![0, o] ![1, 512] i) (ix2 0 e) = B (ix2 0 ⟨o + e, by omega⟩) := by pointwise
  rw [e', h]

end staged

section point
variable (c : Dev nD) (t : Fin cfg0.N)

/-- The positions of a sub-block's rows as the kernel counts them. -/
theorem pos0_at (r : Fin 512) : k0_pay7 (grid0.coords t) (ix2 r 0) = BitVec.ofNat 32 (1024 * (t.val % 8) + r) := by
  pointwise [k0_pay7, idx t]
  rw [show Scalar.addi (Scalar.muli (BitVec.ofNat 32 (t.val % 8)) 1024#32) 0#32 = BitVec.ofNat 32 (t.val % 8) * 1024#32 + 0#32 from rfl]
  show BitVec.ofNat 32 (t.val % 8) * 1024#32 + 0#32 + BitVec.ofNat 32 r.val = _
  refine BitVec.eq_of_toNat_eq ?_
  simp only [BitVec.toNat_add, BitVec.toNat_mul, BitVec.toNat_ofNat]
  omega

theorem pos1_at (r : Fin 512) :
    k0_pay26 (BitVec.ofNat 32 (grid0.coords t 1).val) (ix2 r 0) = BitVec.ofNat 32 (1024 * (t.val % 8) + 512 + r) := by
  pointwise [k0_pay26, idx t]
  show BitVec.ofNat 32 (t.val % 8) * 1024#32 + 512#32 + BitVec.ofNat 32 r.val = _
  refine BitVec.eq_of_toNat_eq ?_
  simp only [BitVec.toNat_add, BitVec.toNat_mul, BitVec.toNat_ofNat]
  omega

end point

/-- A group's loaded rows are the padded pooled half's from position `n0 - 16` on. -/
def Rows (A : Args) (b n0 : ℕ) (γ : Fin 4) (x : FVec Ideal S528x512 .f32) : Prop :=
  ∀ p (hp : p < 528) (c : Fin 512), x (ix2 ⟨p, hp⟩ c) = upad A b (n0 + p) ⟨512 * γ + c, by omega⟩

/-- A sub-block's projection holds the gating half from feature 2048 on, and its counts are its positions. -/
def Sub (A : Args) (b n0 : ℕ) (v25 : FVec Ideal S512x4096 .f32) (v34 : IVec S512x1 32) : Prop :=
  (∀ (r : Fin 512) (e : Fin 2048), v25 (ix2 r ⟨2048 + e, by omega⟩) = gate A b (n0 + r) e)
    ∧ ∀ r : Fin 512, v34 (ix2 r 0) = BitVec.ofNat 32 (n0 + r)

/-- A group's stored features are the layer's. -/
theorem zgrp (A : Args) (b n0 : ℕ) (γ : Fin 4) (w o : ℕ) (hw : w = 2 ^ (γ.val + 1)) (ho : o = 2048 + 512 * γ.val) {x : FVec Ideal S528x512 .f32}
    {v25 : FVec Ideal S512x4096 .f32} {v34 : IVec S512x1 32} (hs : Sub A b n0 v25 v34) (hx : Rows A b n0 γ x)
    {wg : FVec Ideal S1x512x512 .bf16} {sc : FVec Ideal S1x512 .f32} (hwg : ∀ k e, wg (ix3 0 k e) = A.wg γ k e)
    (hsc : ∀ e : Fin 512, sc (ix2 0 e) = A.sc ⟨512 * γ + e, by omega⟩) (r e : Fin 512) :
    zpay w x (v34 (ix2 r 0)) wg sc (v25 (ix2 r ⟨o + e, by omega⟩)) r e = z A b (n0 + r) ⟨512 * γ + e, by omega⟩ := by
  refine zpay_eq A b n0 γ w γ.isLt hw x hx _ wg sc _ r e (hs.2 r) (fun k => hwg k e) (hsc e) ?_
  rw [← hs.1]
  exact congrArg (fun i => v25 (ix2 r i)) (Fin.ext (by simp only; omega))

/-- A sub-block's projection of its staged tokens. -/
theorem sub_of {A : Args} {b n0 : ℕ} {x : FVec Ideal S1x512x1024 .f32} {g : FVec Ideal S1x1024 .f32} {w : FVec Ideal S1024x4096 .bf16}
    {v : IVec S512x1 32} (hx : ∀ (r : Fin 512) k, x (ix3 0 r k) = A.x b (n0 + r) k) (hg : ∀ k, g (ix2 0 k) = A.g k)
    (hw : ∀ k e, w (ix2 k e) = A.w k e) (hv : ∀ r : Fin 512, v (ix2 r 0) = BitVec.ofNat 32 (n0 + r)) :
    Sub A b n0 (k0_pay5 x g w) v ∧ Sub A b n0 (k0_pay24 x g w) v := by
  refine ⟨⟨fun r e => ?_, hv⟩, ⟨fun r e => ?_, hv⟩⟩
  · rw [pay5_at]
    simp only [hx, hg, hw, gate]
  · rw [pay24_at]
    simp only [hx, hg, hw, gate]

/-- The rows carried in before a point's own stores. -/
def Halo (A : Args) (t : ℕ) (H : FVec Ideal S16x2048 .f32) : Prop :=
  ∀ (r : Fin 16) (e : Fin 2048), H (ix2 r e) = upad A (t / 8) (1024 * (t % 8) + r) e

/-- The first point of a batch has no rows before it. -/
theorem haloA (A : Args) (t : ℕ) (h0 : t % 8 = 0) : Halo A t (k0_pay2 (F := Ideal)) := by
  intro r e
  have h : k0_pay2 (F := Ideal) (ix2 r e) = 0 := by pointwise [k0_pay2]
  rw [h, h0, upad, if_pos (by omega)]

/-- The others have the last rows of the point before. -/
theorem haloB (A : Args) (t : ℕ) (h1 : 1 ≤ t % 8) (S : Vec Ideal S1040x2048 .f32) (ih : Carried A (t - 1) S) :
    Halo A t (k0_pay3 (F := Ideal) (View.ld S (Rect.unit (s := S1040x2048) ![1024, 0] ![16, 2048] inb_S1040x2048_S16x2048_1024_0))) := by
  intro r e
  have h : k0_pay3 (F := Ideal) (View.ld S (Rect.unit (s := S1040x2048) ![1024, 0] ![16, 2048] inb_S1040x2048_S16x2048_1024_0)) (ix2 r e)
      = S (ix2 ⟨1024 + r, by omega⟩ e) := by pointwise [k0_pay3]
  rw [h, ih]
  have a : (t - 1) / 8 = t / 8 := by omega
  have b : 1024 * ((t - 1) % 8) + (1024 + r.val) = 1024 * (t % 8) + r := by omega
  simp only [a, b]

/-- A group's loaded rows of the first sub-block … -/
theorem load2 (A : Args) (b n0 : ℕ) (U0 : FVec Ideal S512x2048 .f32) (H : FVec Ideal S16x2048 .f32)
    (i0 : ∀ a, (![16, 0] : Fin 2 → ℕ) a + (![512, 2048] : Fin 2 → ℕ) a ≤ S1040x2048.size a)
    (i1 : ∀ a, (![0, 0] : Fin 2 → ℕ) a + (![16, 2048] : Fin 2 → ℕ) a ≤ S1040x2048.size a)
    (hU : ∀ (r : Fin 512) (e : Fin 2048), U0 (ix2 r e) = u A b (n0 + r) e)
    (hH : ∀ (r : Fin 16) (e : Fin 2048), H (ix2 r e) = upad A b (n0 + r) e) (γ : Fin 4) (o : ℕ) (ho : o = 512 * γ.val)
    (i : ∀ a, (![0, o] : Fin 2 → ℕ) a + (![528, 512] : Fin 2 → ℕ) a ≤ S1040x2048.size a) :
    Rows A b n0 γ ((View.whole cc0_scratch0).readCov (Val := Elt Ideal)
      [⟨Rect.unit (s := S1040x2048) ![16, 0] ![512, 2048] i0, U0⟩, ⟨Rect.unit (s := S1040x2048) ![0, 0] ![16, 2048] i1, H⟩]
      (Rect.unit (s := S1040x2048) ![0, o] ![528, 512] i).toLoadRect) := by
  subst ho
  intro p hp c
  refine (Cert.Mat.readCov_at ..).trans ((rows2 A b n0 U0 H i0 i1 hU hH _ (by simp only; omega) _).trans ?_)
  simp only [Nat.zero_add]

/-- … and of the second. -/
theorem load3 (A : Args) (b n0 : ℕ) (U1 U0 : FVec Ideal S512x2048 .f32) (H : FVec Ideal S16x2048 .f32)
    (i2 : ∀ a, (![528, 0] : Fin 2 → ℕ) a + (![512, 2048] : Fin 2 → ℕ) a ≤ S1040x2048.size a)
    (i0 : ∀ a, (![16, 0] : Fin 2 → ℕ) a + (![512, 2048] : Fin 2 → ℕ) a ≤ S1040x2048.size a)
    (i1 : ∀ a, (![0, 0] : Fin 2 → ℕ) a + (![16, 2048] : Fin 2 → ℕ) a ≤ S1040x2048.size a)
    (hU1 : ∀ (r : Fin 512) (e : Fin 2048), U1 (ix2 r e) = u A b (n0 + 512 + r) e)
    (hU : ∀ (r : Fin 512) (e : Fin 2048), U0 (ix2 r e) = u A b (n0 + r) e)
    (hH : ∀ (r : Fin 16) (e : Fin 2048), H (ix2 r e) = upad A b (n0 + r) e) (γ : Fin 4) (o : ℕ) (ho : o = 512 * γ.val)
    (i : ∀ a, (![512, o] : Fin 2 → ℕ) a + (![528, 512] : Fin 2 → ℕ) a ≤ S1040x2048.size a) :
    Rows A b (n0 + 512) γ ((View.whole cc0_scratch0).readCov (Val := Elt Ideal)
      [⟨Rect.unit (s := S1040x2048) ![528, 0] ![512, 2048] i2, U1⟩, ⟨Rect.unit (s := S1040x2048) ![16, 0] ![512, 2048] i0, U0⟩,
        ⟨Rect.unit (s := S1040x2048) ![0, 0] ![16, 2048] i1, H⟩] (Rect.unit (s := S1040x2048) ![512, o] ![528, 512] i).toLoadRect) := by
  subst ho
  intro p hp c
  refine (Cert.Mat.readCov_at ..).trans ((rows3 A b n0 U1 U0 H i2 i0 i1 hU1 hU hH _ _).trans ?_)
  simp only [Nat.add_assoc]

/-- An index of a stored sub-block from its coordinates. -/
theorem eq_of_coords (x : S1x512x1024.Idx) (r : Fin 512) (d : Fin 1024) (h1 : (x 1).val = r) (h2 : (x 2).val = d) :
    x = ix3 0 r d := by
  funext a
  refine Fin.ext ?_
  match a with
  | ⟨0, _⟩ => exact Nat.lt_one_iff.1 (x 0).isLt
  | ⟨1, _⟩ => exact h1
  | ⟨2, _⟩ => exact h2

/-- Reading a whole buffer back gives what was put there. -/
theorem read_back (S : Vec Ideal S1040x2048 .f32) : View.read (Elt Ideal) (View.whole cc0_scratch0)
    ((Memref.isWhole_whole cc0_scratch0).unread S) = S := (Memref.isWhole_whole cc0_scratch0).read_unread S

/-- The rows a batch's first point carries out … -/
theorem carriedA (c : Dev nD) (t : Fin cfg0.N) (h0 : t.val % 8 = 0) (h1 : ¬1 ≤ t.val % 8) :
    Carried (args m c) t.val (outsAt0 m c t.val t.isLt).2 := by
  intro p e
  rw [outsAt0_A m c t h0 h1]; frame_out
  exact rows3 (args m c) (t.val / 8) (1024 * (t.val % 8)) _ _ _ _ _ _
    (fun r e => (urow _ _ _ _ _ _ (tok1 (blk0 m c t)) (blk1 m c t) (blk2 m c t) r e).2)
    (fun r e => (urow _ _ _ _ _ _ (tok0 (blk0 m c t)) (blk1 m c t) (blk2 m c t) r e).1) (haloA (args m c) t.val h0) p e

/-- … and the others. -/
theorem carriedB (c : Dev nD) (t : Fin cfg0.N) (h0 : ¬t.val % 8 = 0) (h1 : 1 ≤ t.val % 8)
    (ih : Carried (args m c) (t.val - 1) (outsAt0 m c (t.val - 1) (Nat.lt_of_le_of_lt (Nat.sub_le _ _) t.isLt)).2) :
    Carried (args m c) t.val (outsAt0 m c t.val t.isLt).2 := by
  intro p e
  rw [outsAt0_B m c t h0 h1]; frame_out
  generalize (outsAt0 m c (t.val - 1) _).2 = S at ih ⊢
  rw [read_back]
  exact rows3 (args m c) (t.val / 8) (1024 * (t.val % 8)) _ _ _ _ _ _
    (fun r e => (urow _ _ _ _ _ _ (tok1 (blk0 m c t)) (blk1 m c t) (blk2 m c t) r e).2)
    (fun r e => (urow _ _ _ _ _ _ (tok0 (blk0 m c t)) (blk1 m c t) (blk2 m c t) r e).1) (haloB (args m c) t.val h1 S ih) p e

/-- The first point of a batch leaves the layer's output in its output block … -/
theorem outA (c : Dev nD) (t : Fin cfg0.N) (h0 : t.val % 8 = 0) (h1 : ¬1 ≤ t.val % 8) (r d : Fin 1024) :
    (outsAt0 m c t.val t.isLt).1 (ix3 0 r d) = out (args m c) (t.val / 8) (1024 * (t.val % 8) + r) d := by
  rw [outsAt0_A m c t h0 h1]; frame_out
  have hH := haloA (args m c) t.val h0
  have hU0 := fun r e => (urow _ _ _ _ _ _ (tok0 (blk0 m c t)) (blk1 m c t) (blk2 m c t) r e).1
  have hU1 := fun r e => (urow _ _ _ _ _ _ (tok1 (blk0 m c t)) (blk1 m c t) (blk2 m c t) r e).2
  have hs0 := (sub_of (tok0 (blk0 m c t)) (blk1 m c t) (blk2 m c t) (pos0_at t)).1
  have hs1 := (sub_of (tok1 (blk0 m c t)) (blk1 m c t) (blk2 m c t) (pos1_at t)).2
  canon_tiles x h
  · have hr : r.val = 512 + (x 1).val := h1
    rw [eq_of_coords x ⟨r - 512, by omega⟩ d (by simp only; omega) h2.symm, out1_at]
    have e1 : 1024 * (t.val % 8) + 512 + (r.val - 512) = 1024 * (t.val % 8) + r := by omega
    rw [← e1]
    refine outpay_eq _ _ _ _ _ _ _ ⟨r - 512, by omega⟩ _ (tok1 (blk0 m c t) _) (fun e => ?_) (blk5 m c t) (blk6 m c t)
    refine (Cert.Mat.readCov_at ..).trans ?_
    refine (cols4 (args m c) (t.val / 8) (1024 * (t.val % 8) + 512) 512 _ _ _ _ _ _ _ _ _
      (fun r e => (y3_at ..).trans (zgrp _ _ _ 3 16 _ rfl rfl hs1 (load3 _ _ _ _ _ _ _ _ _ hU1 hU0 hH 3 _ rfl _)
        (grp (blk3 m c t) 3 (by decide) _) (scl (blk4 m c t) 1536 (by decide) _) r e))
      (fun r e => (y2_at ..).trans (zgrp _ _ _ 2 8 _ rfl rfl hs1 (load3 _ _ _ _ _ _ _ _ _ hU1 hU0 hH 2 _ rfl _)
        (grp (blk3 m c t) 2 (by decide) _) (scl (blk4 m c t) 1024 (by decide) _) r e))
      (fun r e => (y1_at ..).trans (zgrp _ _ _ 1 4 _ rfl rfl hs1 (load3 _ _ _ _ _ _ _ _ _ hU1 hU0 hH 1 _ rfl _)
        (grp (blk3 m c t) 1 (by decide) _) (scl (blk4 m c t) 512 (by decide) _) r e))
      (fun r e => (y0_at ..).trans (zgrp _ _ _ 0 2 _ rfl rfl hs1 (load3 _ _ _ _ _ _ _ _ _ hU1 hU0 hH 0 _ rfl _)
        (grp (blk3 m c t) 0 (by decide) _) (scl (blk4 m c t) 0 (by decide) _) r e)) _ ⟨r - 512, by omega⟩ rfl _).trans ?_
    simp only [Nat.zero_add]
  · have hr : r.val = (x 1).val := h1
    rw [eq_of_coords x ⟨r, by omega⟩ d h1.symm h2.symm, out0_at]
    refine outpay_eq _ _ _ _ _ _ _ _ _ (tok0 (blk0 m c t) _) (fun e => ?_) (blk5 m c t) (blk6 m c t)
    refine (Cert.Mat.readCov_at ..).trans ?_
    refine (cols4 (args m c) (t.val / 8) (1024 * (t.val % 8)) 0 _ _ _ _ _ _ _ _ _
      (fun r e => (z3_at ..).trans (zgrp _ _ _ 3 16 _ rfl rfl hs0 (load2 _ _ _ _ _ _ _ hU0 hH 3 _ rfl _)
        (grp (blk3 m c t) 3 (by decide) _) (scl (blk4 m c t) 1536 (by decide) _) r e))
      (fun r e => (z2_at ..).trans (zgrp _ _ _ 2 8 _ rfl rfl hs0 (load2 _ _ _ _ _ _ _ hU0 hH 2 _ rfl _)
        (grp (blk3 m c t) 2 (by decide) _) (scl (blk4 m c t) 1024 (by decide) _) r e))
      (fun r e => (z1_at ..).trans (zgrp _ _ _ 1 4 _ rfl rfl hs0 (load2 _ _ _ _ _ _ _ hU0 hH 1 _ rfl _)
        (grp (blk3 m c t) 1 (by decide) _) (scl (blk4 m c t) 512 (by decide) _) r e))
      (fun r e => (z0_at ..).trans (zgrp _ _ _ 0 2 _ rfl rfl hs0 (load2 _ _ _ _ _ _ _ hU0 hH 0 _ rfl _)
        (grp (blk3 m c t) 0 (by decide) _) (scl (blk4 m c t) 0 (by decide) _) r e)) _ ⟨r, by omega⟩ (by simp only) _).trans ?_
    simp only [Nat.zero_add]

/-- … and so do the others, from the carried rows of the point before. -/
theorem outB (c : Dev nD) (t : Fin cfg0.N) (h0 : ¬t.val % 8 = 0) (h1 : 1 ≤ t.val % 8)
    (ih : Carried (args m c) (t.val - 1) (outsAt0 m c (t.val - 1) (Nat.lt_of_le_of_lt (Nat.sub_le _ _) t.isLt)).2) (r d : Fin 1024) :
    (outsAt0 m c t.val t.isLt).1 (ix3 0 r d) = out (args m c) (t.val / 8) (1024 * (t.val % 8) + r) d := by
  rw [outsAt0_B m c t h0 h1]; frame_out
  generalize (outsAt0 m c (t.val - 1) _).2 = S at ih ⊢
  rw [read_back]
  have hH := haloB (args m c) t.val h1 S ih
  have hU0 := fun r e => (urow _ _ _ _ _ _ (tok0 (blk0 m c t)) (blk1 m c t) (blk2 m c t) r e).1
  have hU1 := fun r e => (urow _ _ _ _ _ _ (tok1 (blk0 m c t)) (blk1 m c t) (blk2 m c t) r e).2
  have hs0 := (sub_of (tok0 (blk0 m c t)) (blk1 m c t) (blk2 m c t) (pos0_at t)).1
  have hs1 := (sub_of (tok1 (blk0 m c t)) (blk1 m c t) (blk2 m c t) (pos1_at t)).2
  canon_tiles x h
  · have hr : r.val = 512 + (x 1).val := h1
    rw [eq_of_coords x ⟨r - 512, by omega⟩ d (by simp only; omega) h2.symm, out1_at]
    have e1 : 1024 * (t.val % 8) + 512 + (r.val - 512) = 1024 * (t.val % 8) + r := by omega
    rw [← e1]
    refine outpay_eq _ _ _ _ _ _ _ ⟨r - 512, by omega⟩ _ (tok1 (blk0 m c t) _) (fun e => ?_) (blk5 m c t) (blk6 m c t)
    refine (Cert.Mat.readCov_at ..).trans ?_
    refine (cols4 (args m c) (t.val / 8) (1024 * (t.val % 8) + 512) 512 _ _ _ _ _ _ _ _ _
      (fun r e => (y3_at ..).trans (zgrp _ _ _ 3 16 _ rfl rfl hs1 (load3 _ _ _ _ _ _ _ _ _ hU1 hU0 hH 3 _ rfl _)
        (grp (blk3 m c t) 3 (by decide) _) (scl (blk4 m c t) 1536 (by decide) _) r e))
      (fun r e => (y2_at ..).trans (zgrp _ _ _ 2 8 _ rfl rfl hs1 (load3 _ _ _ _ _ _ _ _ _ hU1 hU0 hH 2 _ rfl _)
        (grp (blk3 m c t) 2 (by decide) _) (scl (blk4 m c t) 1024 (by decide) _) r e))
      (fun r e => (y1_at ..).trans (zgrp _ _ _ 1 4 _ rfl rfl hs1 (load3 _ _ _ _ _ _ _ _ _ hU1 hU0 hH 1 _ rfl _)
        (grp (blk3 m c t) 1 (by decide) _) (scl (blk4 m c t) 512 (by decide) _) r e))
      (fun r e => (y0_at ..).trans (zgrp _ _ _ 0 2 _ rfl rfl hs1 (load3 _ _ _ _ _ _ _ _ _ hU1 hU0 hH 0 _ rfl _)
        (grp (blk3 m c t) 0 (by decide) _) (scl (blk4 m c t) 0 (by decide) _) r e)) _ ⟨r - 512, by omega⟩ rfl _).trans ?_
    simp only [Nat.zero_add]
  · have hr : r.val = (x 1).val := h1
    rw [eq_of_coords x ⟨r, by omega⟩ d h1.symm h2.symm, out0_at]
    refine outpay_eq _ _ _ _ _ _ _ _ _ (tok0 (blk0 m c t) _) (fun e => ?_) (blk5 m c t) (blk6 m c t)
    refine (Cert.Mat.readCov_at ..).trans ?_
    refine (cols4 (args m c) (t.val / 8) (1024 * (t.val % 8)) 0 _ _ _ _ _ _ _ _ _
      (fun r e => (z3_at ..).trans (zgrp _ _ _ 3 16 _ rfl rfl hs0 (load2 _ _ _ _ _ _ _ hU0 hH 3 _ rfl _)
        (grp (blk3 m c t) 3 (by decide) _) (scl (blk4 m c t) 1536 (by decide) _) r e))
      (fun r e => (z2_at ..).trans (zgrp _ _ _ 2 8 _ rfl rfl hs0 (load2 _ _ _ _ _ _ _ hU0 hH 2 _ rfl _)
        (grp (blk3 m c t) 2 (by decide) _) (scl (blk4 m c t) 1024 (by decide) _) r e))
      (fun r e => (z1_at ..).trans (zgrp _ _ _ 1 4 _ rfl rfl hs0 (load2 _ _ _ _ _ _ _ hU0 hH 1 _ rfl _)
        (grp (blk3 m c t) 1 (by decide) _) (scl (blk4 m c t) 512 (by decide) _) r e))
      (fun r e => (z0_at ..).trans (zgrp _ _ _ 0 2 _ rfl rfl hs0 (load2 _ _ _ _ _ _ _ hU0 hH 0 _ rfl _)
        (grp (blk3 m c t) 0 (by decide) _) (scl (blk4 m c t) 0 (by decide) _) r e)) _ ⟨r, by omega⟩ (by simp only) _).trans ?_
    simp only [Nat.zero_add]

/-- Every point leaves the carried rows of its own last positions. -/
theorem carried (c : Dev nD) : ∀ (n : ℕ) (hn : n < cfg0.N), Carried (args m c) n (outsAt0 m c n hn).2
  | 0, hn => carriedA m c ⟨0, hn⟩ rfl (by simp)
  | n + 1, hn =>
    if h : (n + 1) % 8 = 0 then carriedA m c ⟨n + 1, hn⟩ h (by simp only; omega)
    else carriedB m c ⟨n + 1, hn⟩ h (by simp only; omega) (carried c n (Nat.lt_of_succ_lt hn))

/-- Every point leaves the layer's output of its positions. -/
theorem out_at (c : Dev nD) (t : Fin cfg0.N) (r d : Fin 1024) :
    (outsAt0 m c t.val t.isLt).1 (ix3 0 r d) = out (args m c) (t.val / 8) (1024 * (t.val % 8) + r) d :=
  if h : t.val % 8 = 0 then outA m c t h (by omega) r d
  else outB m c t h (by omega) (carried m c _ _) r d

/-- The program's result array. -/
theorem final (c : Dev nD) : (dats m 0 c).arrAt 7 cfg0.N = fun i => out (args m c) (i 0).val (i 1).val (i 2) := by
  refine (dats m 0 c).arrAt_eq_of_covers 7 _ (by decide +kernel) fun t hf y => ?_
  blk_simp
  rw [after0_7, eq_ix3 y]
  have h0 : y 0 = (0 : Fin 1) := Subsingleton.elim (α := Fin 1) _ _
  rw [h0]
  refine (out_at m c t (y 1) (y 2)).trans ?_
  have hd : (((cfg0.win 7).blk t).view.emb (ix3 0 (y 1) (y 2)) 2) = y 2 := by
    refine Fin.ext ?_
    blk_simp [idx t]
  blk_simp [idx t]
  exact congr (congrArg (out _ _) (by omega)) hd.symm

end Cert.PoolIdeal.Hand
-- ==== Proof.Pool.Ref.lean ====
module

public import proofs.«01_k».proof.Proof.Gen.PoolRefIdeal.Read
public import proofs.«01_k».proof.Proof.Pool.Spec
public import Idealize.ShloMosaic.Lib.Pipeline.ValueKit

/-! The plain reference's operations read at an index, as the layer's mathematics. -/

@[expose] public section

set_option maxRecDepth 16384

noncomputable section

namespace Cert.PoolRefIdeal.Hand

open Cert.PoolRefIdeal Cert.PoolRefIdeal.Gen Cert.PoolRefIdeal.Read Cert.PoolSpec Idealize.ShloMosaic Idealize.ShloMosaic.TcCoe Idealize.SL.Sem

/-- Adding a list's terms one after another from zero is their sum. -/
theorem foldl_add_eq_sum {N : ℕ} (g : Fin N → EReal) :
    (List.finRange N).foldl (fun r n => r + g n) 0 = ∑ n, g n := by
  rw [← List.foldl_map (f := g) (g := fun r x => r + x), ← List.sum_eq_foldl, ← List.ofFn_eq_map, List.sum_ofFn]

/-- A window's positions, numbered along its middle axis. -/
theorem mid_symm (w : ℕ) (n : Fin (⟨3, ![1, w, 1]⟩ : Shape).numel) :
    (((⟨3, ![1, w, 1]⟩ : Shape).rowMajor.symm n) 0).val = 0 ∧ (((⟨3, ![1, w, 1]⟩ : Shape).rowMajor.symm n) 1).val = n.val
      ∧ (((⟨3, ![1, w, 1]⟩ : Shape).rowMajor.symm n) 2).val = 0 := by
  have h := Shape.rowMajor_val_three ((⟨3, ![1, w, 1]⟩ : Shape).rowMajor.symm n)
  rw [Equiv.apply_symm_apply] at h
  generalize (⟨3, ![1, w, 1]⟩ : Shape).rowMajor.symm n = q at h ⊢
  have h0 : (q 0).val < 1 := (q 0).isLt
  have h2 : (q 2).val < 1 := (q 2).isLt
  have e0 : (q 0).val = 0 := by omega
  have e2 : (q 2).val = 0 := by omega
  rw [e0, e2] at h
  change n.val = (0 * w + (q 1).val) * 1 + 0 at h
  exact ⟨e0, by omega, e2⟩

theorem mid_numel (w : ℕ) : (⟨3, ![1, w, 1]⟩ : Shape).numel = w := by
  simp [Shape.numel, Fin.prod_univ_three]

/-- A trailing-window sum along the middle axis, read at an index: the terms at the window's positions, nothing where
    the position is before the first. -/
theorem window_at {B N C : ℕ} (w : ℕ) (x : FVec Ideal (⟨3, ![B, N, C]⟩ : Shape) .f32) (init : FVec Ideal (⟨0, ![]⟩ : Shape) .f32)
    (h : (⟨3, ![B, N, C]⟩ : Shape).ReduceWindows (![1, w + 1, 1] : Fin 3 → ℕ) ![1, 1, 1] ![0, w, 0] ![0, 0, 0] (⟨3, ![B, N, C]⟩ : Shape))
    (hu : 0 < (⟨0, ![]⟩ : Shape).numel) (hi : init (Shape.Idx.first hu) = 0) (b : Fin B) (n : Fin N) (c : Fin C) :
    Host.reduceWindowAdd (F := Ideal) (φ := .f32) ![1, w + 1, 1] ![1, 1, 1] ![0, w, 0] ![0, 0, 0] x init h hu (ix3 b n c)
      = ∑ k ∈ Finset.range (w + 1), if hk : k ≤ n.val then x (ix3 b ⟨n - k, by omega⟩ c) else 0 := by
  simp only [Host.reduceWindowAdd, Ideal.hostReduceWindowAdd_def, Ideal.hostReduceWindowAdd, Host.reduceWindow, hi]
  have e : ∀ (q : (⟨3, ![1, w + 1, 1]⟩ : Shape).Idx) (k : ℕ), (q 0).val = 0 → (q 1).val = k → (q 2).val = 0 → k < w + 1 →
      (if hin : ∀ a, (![0, w, 0] : Fin 3 → ℕ) a ≤ ((ix3 b n c) (Fin.cast h.1.symm a)).val * (![1, 1, 1] : Fin 3 → ℕ) a + (q a).val
          ∧ ((ix3 b n c) (Fin.cast h.1.symm a)).val * (![1, 1, 1] : Fin 3 → ℕ) a + (q a).val - (![0, w, 0] : Fin 3 → ℕ) a
            < (⟨3, ![B, N, C]⟩ : Shape).size a
        then x (fun a => ⟨((ix3 b n c) (Fin.cast h.1.symm a)).val * (![1, 1, 1] : Fin 3 → ℕ) a + (q a).val - (![0, w, 0] : Fin 3 → ℕ) a, (hin a).2⟩)
        else 0)
      = if hk : w - k ≤ n.val then x (ix3 b ⟨n - (w - k), by omega⟩ c) else 0 := by
    intro q k h0 h1 h2 hk
    have hn := n.isLt
    split
    · next hin =>
      have g := (hin 1).1
      change w ≤ n.val * 1 + (q 1).val at g
      rw [dif_pos (by omega)]
      refine congrArg x (funext fun a => Fin.ext ?_)
      match a with
      | ⟨0, _⟩ => show b.val * 1 + (q 0).val - 0 = b.val; omega
      | ⟨1, _⟩ => show n.val * 1 + (q 1).val - w = n.val - (w - k); omega
      | ⟨2, _⟩ => show c.val * 1 + (q 2).val - 0 = c.val; omega
    · next hin =>
      rw [dif_neg]
      intro hle
      refine hin fun a => ?_
      match a with
      | ⟨0, _⟩ => show 0 ≤ b.val * 1 + (q 0).val ∧ b.val * 1 + (q 0).val - 0 < B; omega
      | ⟨1, _⟩ => show w ≤ n.val * 1 + (q 1).val ∧ n.val * 1 + (q 1).val - w < N; omega
      | ⟨2, _⟩ => show 0 ≤ c.val * 1 + (q 2).val ∧ c.val * 1 + (q 2).val - 0 < C; omega
  have hs := fun p : Fin (⟨3, ![1, w + 1, 1]⟩ : Shape).numel =>
    e _ p.val (mid_symm (w + 1) p).1 (mid_symm (w + 1) p).2.1 (mid_symm (w + 1) p).2.2 (p.isLt.trans_eq (mid_numel _))
  refine (foldl_add_eq_sum _).trans ((Finset.sum_congr rfl fun p _ => hs p).trans ?_)
  rw [Fin.sum_univ_eq_sum_range (fun k => if hk : w - k ≤ n.val then x (ix3 b ⟨n - (w - k), by omega⟩ c) else 0), mid_numel,
    ← Finset.sum_range_reflect]
  refine Finset.sum_congr rfl fun k hk => ?_
  have hk' := Finset.mem_range.1 hk
  have : w - (w + 1 - 1 - k) = k := by omega
  simp only [this]

section stages
variable (x0 : (⟨S8x8192x1024, .f32⟩ : BufTy).Contents (Elt Ideal)) (x1 : (⟨S4x1024, .f32⟩ : BufTy).Contents (Elt Ideal))
  (x2 : (⟨S1024, .f32⟩ : BufTy).Contents (Elt Ideal)) (x3 : (⟨S4x2048x1024, .f32⟩ : BufTy).Contents (Elt Ideal))
  (x4 : (⟨S2x1024x4096, .f32⟩ : BufTy).Contents (Elt Ideal)) (x5 : (⟨S2x4x512x512, .f32⟩ : BufTy).Contents (Elt Ideal))
  (x6 : (⟨S2x2048, .f32⟩ : BufTy).Contents (Elt Ideal))

/-- A token of the stream. -/
theorem x_at (b : Fin 8) (n : Fin 8192) : (Args.of x0 x1 x2 x3 x4 x5 x6).x b n = fun k => x0 (ix3 b n k) := by
  funext k
  unfold Args.of; dsimp only
  rw [dif_pos ⟨b.isLt, n.isLt⟩]

/-- The projection of the normed token. -/
theorem v17_at (b : Fin 8) (n : Fin 8192) (e : Fin 4096) : val_main_v17 (F := Ideal) x0 x1 x4 (ix3 b n e)
    = proj ((Args.of x0 x1 x2 x3 x4 x5 x6).x b n) (Args.of x0 x1 x2 x3 x4 x5 x6).g (Args.of x0 x1 x2 x3 x4 x5 x6).w e := by
  rw [x_at]
  unfold Args.of proj rms; dsimp only
  pointwise [val_main_v17, val_main_v16, val_main_v15, val_main_v14, val_main_v13, val_main_v12, val_main_v11, val_main_v10,
    val_main_v9, val_main_v8, val_main_v7, val_main_cst_1, val_main_v6, val_main_v5, val_main_cst_0, val_main_v4, val_main_v3,
    val_main_cst, val_main_v2, val_main_v1, val_main_v0, zero_add]

/-- The pooled half by groups. -/
theorem v24_at (b : Fin 8) (n : Fin 8192) (γ : Fin 4) (c : Fin 512) : val_main_v24 (F := Ideal) x0 x1 x4 (ix4 b n γ c)
    = u (Args.of x0 x1 x2 x3 x4 x5 x6) b n ⟨512 * γ + c, by omega⟩ := by
  unfold u
  rw [← v17_at, val_main_v24_apply, val_main_v18_apply]
  refine congrArg _ (funext fun a => Fin.ext ?_)
  match a with
  | ⟨0, _⟩ => show (((b.val * 8192 + n.val) * 4 + γ.val) * 512 + c.val) / 16777216 = b.val; omega
  | ⟨1, _⟩ => show (((b.val * 8192 + n.val) * 4 + γ.val) * 512 + c.val) / 2048 % 8192 = n.val; omega
  | ⟨2, _⟩ => show (((b.val * 8192 + n.val) * 4 + γ.val) * 512 + c.val) % 2048 = 512 * γ.val + c.val; omega

/-- The groups' own slices. -/
theorem slices_at (b : Fin 8) (n : Fin 8192) (c : Fin 512) :
    val_main_v27 (F := Ideal) x0 x1 x4 (ix3 b n c) = u (Args.of x0 x1 x2 x3 x4 x5 x6) b n ⟨512 * 0 + c, by omega⟩
    ∧ val_main_v39 (F := Ideal) x0 x1 x4 (ix3 b n c) = u (Args.of x0 x1 x2 x3 x4 x5 x6) b n ⟨512 * 1 + c, by omega⟩
    ∧ val_main_v51 (F := Ideal) x0 x1 x4 (ix3 b n c) = u (Args.of x0 x1 x2 x3 x4 x5 x6) b n ⟨512 * 2 + c, by omega⟩
    ∧ val_main_v63 (F := Ideal) x0 x1 x4 (ix3 b n c) = u (Args.of x0 x1 x2 x3 x4 x5 x6) b n ⟨512 * 3 + c, by omega⟩ := by
  have h := fun γ => v24_at x0 x1 x2 x3 x4 x5 x6 b n γ c
  refine ⟨(Eq.trans ?_ (h 0)), (Eq.trans ?_ (h 1)), (Eq.trans ?_ (h 2)), (Eq.trans ?_ (h 3))⟩
  · pointwise [val_main_v27, val_main_v26]
  · pointwise [val_main_v39, val_main_v38]
  · pointwise [val_main_v51, val_main_v50]
  · pointwise [val_main_v63, val_main_v62]

/-- A group's trailing-window sum. -/
theorem sum_at (A : Args) (γ : Fin 4) (w : ℕ) (hw : w + 1 = 2 ^ (γ.val + 1)) (x : FVec Ideal S8x8192x512 .f32) (init : FVec Ideal S_ .f32)
    (h : S8x8192x512.ReduceWindows (![1, w + 1, 1] : Fin 3 → ℕ) ![1, 1, 1] ![0, w, 0] ![0, 0, 0] S8x8192x512)
    (hu : 0 < S_.numel) (hi : init (Shape.Idx.first hu) = 0)
    (hx : ∀ (b : Fin 8) (n : Fin 8192) (c : Fin 512), x (ix3 b n c) = u A b n ⟨512 * γ + c, by omega⟩) (b : Fin 8) (n : Fin 8192) (c : Fin 512) :
    Host.reduceWindowAdd (F := Ideal) (φ := .f32) ![1, w + 1, 1] ![1, 1, 1] ![0, w, 0] ![0, 0, 0] x init h hu (ix3 b n c)
      = ∑ k ∈ Finset.range (2 ^ (γ.val + 1)), upad A b (n + 16 - k) ⟨512 * γ + c, by omega⟩ := by
  rw [window_at w x init h hu hi, ← hw]
  refine Finset.sum_congr rfl fun k hk => ?_
  unfold upad
  split
  · next hk =>
    have e : n.val + 16 - k - 16 = n - k := by omega
    rw [hx, if_neg (by omega), e]
  · next hk => rw [if_pos (by omega)]

/-- The groups' means minus the tokens. -/
theorem v79_at (b : Fin 8) (n : Fin 8192) (γ : Fin 4) (c : Fin 512) : val_main_v79 (F := Ideal) x0 x1 x4 (ix4 b n γ c)
    = diff (Args.of x0 x1 x2 x3 x4 x5 x6) b n γ γ.isLt c := by
  have hs := slices_at x0 x1 x2 x3 x4 x5 x6
  rw [val_main_v79_apply, v24_at x0 x1 x2 x3 x4 x5 x6]
  refine congrArg (· - _) ?_
  have m0 := sum_at (Args.of x0 x1 x2 x3 x4 x5 x6) 0 1 rfl _ (val_main_v28 (F := Ideal)) reduceWindows_S8x8192x512_S8x8192x512_w1s1p0_0_w2s1p1_0_w1s1p0_0 h_S_
    (by pointwise [val_main_v28, val_main_cst_2]) (fun b n c => (hs b n c).1) b n c
  have m1 := sum_at (Args.of x0 x1 x2 x3 x4 x5 x6) 1 3 rfl _ (val_main_v40 (F := Ideal)) reduceWindows_S8x8192x512_S8x8192x512_w1s1p0_0_w4s1p3_0_w1s1p0_0 h_S_
    (by pointwise [val_main_v40, val_main_cst_4]) (fun b n c => (hs b n c).2.1) b n c
  have m2 := sum_at (Args.of x0 x1 x2 x3 x4 x5 x6) 2 7 rfl _ (val_main_v52 (F := Ideal)) reduceWindows_S8x8192x512_S8x8192x512_w1s1p0_0_w8s1p7_0_w1s1p0_0 h_S_
    (by pointwise [val_main_v52, val_main_cst_7]) (fun b n c => (hs b n c).2.2.1) b n c
  have m3 := sum_at (Args.of x0 x1 x2 x3 x4 x5 x6) 3 15 rfl _ (val_main_v64 (F := Ideal)) reduceWindows_S8x8192x512_S8x8192x512_w1s1p0_0_w16s1p15_0_w1s1p0_0 h_S_
    (by pointwise [val_main_v64, val_main_cst_10]) (fun b n c => (hs b n c).2.2.2) b n c
  match γ with
  | ⟨0, _⟩ =>
    refine Eq.trans (b := Ideal.div (val_main_v29 (F := Ideal) x0 x1 x4 (ix3 b n c)) (cnt 2 n)) ?_ (congrArg (fun s => Ideal.div s (cnt 2 n)) m0)
    pointwise [val_main_v78, val_main_v74, val_main_v37, val_main_v36, val_main_v35, val_main_v34, val_main_v33, val_main_v32, val_main_c_3, val_main_v31,
      val_main_v30, val_main_c, val_main_v25, cnt]
  | ⟨1, _⟩ =>
    refine Eq.trans (b := Ideal.div (val_main_v41 (F := Ideal) x0 x1 x4 (ix3 b n c)) (cnt 4 n)) ?_ (congrArg (fun s => Ideal.div s (cnt 4 n)) m1)
    pointwise [val_main_v78, val_main_v75, val_main_v49, val_main_v48, val_main_v47, val_main_v46, val_main_v45, val_main_v44, val_main_v43, val_main_v42, val_main_v25, val_main_c_5, val_main_c_6, val_main_c, val_main_v25, cnt]
  | ⟨2, _⟩ =>
    refine Eq.trans (b := Ideal.div (val_main_v53 (F := Ideal) x0 x1 x4 (ix3 b n c)) (cnt 8 n)) ?_ (congrArg (fun s => Ideal.div s (cnt 8 n)) m2)
    pointwise [val_main_v78, val_main_v76, val_main_v61, val_main_v60, val_main_v59, val_main_v58, val_main_v57, val_main_v56, val_main_v55, val_main_v54, val_main_c_8, val_main_c_9, val_main_c, val_main_v25, cnt]
  | ⟨3, _⟩ =>
    refine Eq.trans (b := Ideal.div (val_main_v65 (F := Ideal) x0 x1 x4 (ix3 b n c)) (cnt 16 n)) ?_ (congrArg (fun s => Ideal.div s (cnt 16 n)) m3)
    pointwise [val_main_v78, val_main_v77, val_main_v73, val_main_v72, val_main_v71, val_main_v70, val_main_v69, val_main_v68, val_main_v67, val_main_v66, val_main_c_11, val_main_c_12, val_main_c, val_main_v25, cnt]

/-- The sigmoid-weighted unit written as a product is the quotient. -/
theorem silu_eq (g : EReal) : g * Ideal.div 1 (1 + Ideal.exp (-g)) = Ideal.div g (1 + Ideal.exp (0 - g)) := by
  have hp : 0 ≤ Ideal.exp (-g) := by
    unfold Ideal.exp
    split
    · exact le_refl _
    · exact le_top
    · exact EReal.coe_nonneg.2 (Real.exp_pos _).le
  have h0 : (1 : EReal) + Ideal.exp (-g) ≠ 0 := (lt_of_lt_of_le zero_lt_one (le_add_of_nonneg_right hp)).ne'
  rw [zero_sub]
  unfold Ideal.div
  rw [if_neg h0, if_neg h0, one_mul]

/-- The gated mixed features. -/
theorem v87_at (b : Fin 8) (n : Fin 8192) (e : Fin 2048) : val_main_v87 (F := Ideal) x0 x1 x4 x5 x6 (ix3 b n e)
    = z (Args.of x0 x1 x2 x3 x4 x5 x6) b n e := by
  have hg : val_main_v86 (F := Ideal) x0 x1 x4 (ix3 b n e)
      = Ideal.div (gate (Args.of x0 x1 x2 x3 x4 x5 x6) b n e) (1 + Ideal.exp (0 - gate (Args.of x0 x1 x2 x3 x4 x5 x6) b n e)) := by
    rw [← silu_eq]
    unfold gate
    rw [← v17_at]
    pointwise [val_main_v86, val_main_call0_v5, val_main_call0_v4, val_main_call0_cst_0, val_main_call0_v3, val_main_call0_v2, val_main_call0_cst,
      val_main_call0_v1, val_main_call0_v0, val_main_v19]
  have hm : val_main_v82 (F := Ideal) x0 x1 x4 x5 (ix3 b n e)
      = ∑ c : Fin 512, diff (Args.of x0 x1 x2 x3 x4 x5 x6) b n (e / 512) (by omega) c
          * (Args.of x0 x1 x2 x3 x4 x5 x6).wg (e / 512) c ⟨e % 512, by omega⟩ := by
    rw [val_main_v82_apply, val_main_v81_apply, val_main_v80_apply]
    refine Finset.sum_congr rfl fun c _ => (mul_comm _ _).trans ?_
    have hl : ridx_main_v80 (idx_main_v81 (idx_main_v82 (ix3 b n e))) c = ix4 b n ⟨e / 512, by omega⟩ c := by
      funext a
      refine Fin.ext ?_
      match a with
      | ⟨0, _⟩ => show ((b.val * 8192 + n.val) * 2048 + e.val) / 16777216 = b.val; omega
      | ⟨1, _⟩ => show ((b.val * 8192 + n.val) * 2048 + e.val) / 2048 % 8192 = n.val; omega
      | ⟨2, _⟩ => show ((b.val * 8192 + n.val) * 2048 + e.val) / 512 % 4 = e.val / 512; omega
      | ⟨3, _⟩ => rfl
    rw [hl, v79_at x0 x1 x2 x3 x4 x5 x6]
    refine congrArg (diff (Args.of x0 x1 x2 x3 x4 x5 x6) b n (e / 512) (by omega) c * ·) ?_
    have hr : lidx_main_v80 (idx_main_v81 (idx_main_v82 (ix3 b n e))) c = ix3 ⟨e / 512, by omega⟩ c ⟨e % 512, by omega⟩ := by
      funext a
      refine Fin.ext ?_
      match a with
      | ⟨0, _⟩ => show ((b.val * 8192 + n.val) * 2048 + e.val) / 512 % 4 = e.val / 512; omega
      | ⟨1, _⟩ => rfl
      | ⟨2, _⟩ => show ((b.val * 8192 + n.val) * 2048 + e.val) % 512 = e.val % 512; omega
    rw [hr]
    unfold Args.of; dsimp only
    rw [dif_pos (show e.val / 512 < 4 by omega)]
    pointwise [val_main_v21, val_main_v20]
  rw [val_main_v87_apply, hg, val_main_v85_apply, hm]
  have hs : val_main_v84 (F := Ideal) x6 (ix3 b n e) = (Args.of x0 x1 x2 x3 x4 x5 x6).sc e := by
    unfold Args.of; dsimp only
    pointwise [val_main_v84, val_main_v83, val_main_v23, val_main_v22]
  rw [hs]
  rfl

/-- The layer's output stream. -/
theorem v91_at (b : Fin 8) (n : Fin 8192) (d : Fin 1024) : val_main_v91 (F := Ideal) x0 x1 x3 x4 x5 x6 (ix3 b n d)
    = res (Args.of x0 x1 x2 x3 x4 x5 x6) b n d := by
  unfold res
  rw [x_at]
  simp only [← v87_at]
  unfold Args.of; dsimp only
  pointwise [val_main_v91, val_main_v90, val_main_v89, val_main_v88]

/-- The result under the final norm. -/
theorem v104_at (b : Fin 8) (n : Fin 8192) (d : Fin 1024) : val_main_v104 (F := Ideal) x0 x1 x2 x3 x4 x5 x6 (ix3 b n d)
    = out (Args.of x0 x1 x2 x3 x4 x5 x6) b n d := by
  have h := fun d => v91_at x0 x1 x2 x3 x4 x5 x6 b n d
  unfold out rms
  simp only [← h]
  unfold Args.of; dsimp only
  pointwise [val_main_v104, val_main_v103, val_main_v102, val_main_v101, val_main_v100, val_main_v99, val_main_v98, val_main_v97, val_main_cst_15,
    val_main_v96, val_main_v95, val_main_cst_14, val_main_v94, val_main_v93, val_main_cst_13, val_main_v92, zero_add]

end stages

end Cert.PoolRefIdeal.Hand
-- ==== Proof.Lin.Spec.lean ====
module

public import proofs.«01_k».proof.Proof.Pool.Spec

/-! The projections' mathematics over the extended reals, written with functions of plain indices: what the kernels
    and the plain references are both shown to compute. The tokens of the eight sequences stand one after another. -/

@[expose] public section

noncomputable section

namespace Cert.LinSpec

open Idealize.ShloMosaic

/-- An output projection of the gated branch `y` by the third layer's weights, added to the stream `x`: token `i`, feature `d`. -/
def outAt (x : (⟨3, ![8, 8192, 1024]⟩ : Shape).Idx → EReal) (y : (⟨3, ![8, 8192, 2048]⟩ : Shape).Idx → EReal)
    (w : (⟨3, ![4, 2048, 1024]⟩ : Shape).Idx → EReal) (i : Fin 65536) (d : Fin 1024) : EReal :=
  x (ix3 ⟨i / 8192, by omega⟩ ⟨i % 8192, by omega⟩ d)
    + ∑ e : Fin 2048, y (ix3 ⟨i / 8192, by omega⟩ ⟨i % 8192, by omega⟩ e) * w (ix3 2 e d)

/-- The scale of the queries: the single-precision number nearest to `log₂ e / 8`. -/
def qs : EReal := Ideal.ofBits .f32 0x3E38AA3B#32

/-- The scale of column `e` of the dilated layer's weights: that of the queries in the chunks 0, 3 and 6, one elsewhere. -/
def colScale (e : ℕ) : EReal := if e / 2048 % 3 = 0 ∧ e / 2048 < 9 then qs else 1

/-- Column `e` of the dilated layer's input projection at token `i`. -/
def dilAt (h : (⟨3, ![8, 8192, 1024]⟩ : Shape).Idx → EReal) (w : (⟨3, ![1, 1024, 20480]⟩ : Shape).Idx → EReal)
    (i : Fin 65536) (e : Fin 20480) : EReal :=
  (∑ k : Fin 1024, h (ix3 ⟨i / 8192, by omega⟩ ⟨i % 8192, by omega⟩ k) * w (ix3 0 k e)) * colScale e

/-- The column of the second layer's input weights that column `e` of its projection reads: the queries, the gates, the keys
    and the values stand in this order in the projection, and the gates last in the weights. -/
def inCol (e : Fin 4608) : Fin 4608 :=
  ⟨if e.val < 2048 then e.val else if e.val < 4096 then e.val + 512 else e.val - 2048, by split <;> try split
                                                                                          all_goals omega⟩

/-- The scale of column `e` of the second layer's input projection: that of the queries in the first 2048, one elsewhere. -/
def inScale (e : ℕ) : EReal := if e < 2048 then qs else 1

/-- Column `e` of the second layer's input projection of the normed token `i`. -/
def inAt (x : (⟨3, ![8, 8192, 1024]⟩ : Shape).Idx → EReal) (g : (⟨2, ![4, 1024]⟩ : Shape).Idx → EReal)
    (w : (⟨3, ![1, 1024, 4608]⟩ : Shape).Idx → EReal) (i : Fin 65536) (e : Fin 4608) : EReal :=
  (∑ k : Fin 1024, Cert.PoolSpec.rms (fun k => x (ix3 ⟨i / 8192, by omega⟩ ⟨i % 8192, by omega⟩ k)) (fun k => g (ix2 1 k)) k
    * w (ix3 0 k (inCol e))) * inScale e

end Cert.LinSpec

end
-- ==== Proof.Lin.Weights.lean ====
module

public import proofs.«01_k».proof.Proof.Lin.Spec

/-! The dilated projections' prescaled weights: which columns the host code multiplies by the scale, and how the scale of a
    column comes out of a product. -/

@[expose] public section

noncomputable section

namespace Cert.LinSpec

open Idealize.ShloMosaic

/-- The sign of a word. -/
def sgn (x : BitVec 32) : BitVec 32 := if x = 0 then 0 else if x.msb then -1 else 1

/-- Division rounding down, as the host computes it from division rounding toward zero. -/
def fdiv (a b : BitVec 32) : BitVec 32 :=
  Scalar.select (IntOp.andi (IntOp.cmpi .ne (sgn a) (sgn b)) (IntOp.cmpi .ne (IntOp.remsi .host a b) 0#32))
    (IntOp.subi (IntOp.divsi .host a b) 1#32) (IntOp.divsi .host a b)

/-- The divisor, or one for a divisor of zero. -/
def nz (b : BitVec 32) : BitVec 32 := Scalar.select (IntOp.cmpi .eq b 0#32) 1#32 b

/-- The remainder with the divisor's sign, as the host computes it from the remainder with the dividend's sign. -/
def frem (a b : BitVec 32) : BitVec 32 :=
  Scalar.select (IntOp.andi (IntOp.cmpi .ne (IntOp.cmpi .slt (IntOp.remsi .host a (nz b)) 0#32) (IntOp.cmpi .slt (nz b) 0#32))
      (IntOp.cmpi .ne (IntOp.remsi .host a (nz b)) 0#32))
    (IntOp.addi (IntOp.remsi .host a (nz b)) (nz b)) (IntOp.remsi .host a (nz b))

/-- Whether chunk `p` of the weights holds queries, as the host computes it. -/
def isQ (p : BitVec 32) : BitVec 1 := IntOp.andi (IntOp.cmpi .eq (frem p 3#32) 0#32) (IntOp.cmpi .slt p 9#32)

/-- The chunk of a column. -/
theorem fdiv_eq (e : Fin 20480) : fdiv (BitVec.ofNat 32 e) 2048#32 = BitVec.ofNat 32 (e / 2048) := by
  have h : ∀ a : Fin 160, ∀ b : Fin 128, fdiv (BitVec.ofNat 32 (128 * a + b)) 2048#32 = BitVec.ofNat 32 ((128 * a.val + b.val) / 2048) := by
    decide +kernel
  have := h ⟨e / 128, by omega⟩ ⟨e % 128, by omega⟩
  simp only at this
  rwa [Nat.div_add_mod] at this

/-- Chunks 0, 3 and 6 hold queries. -/
theorem isQ_eq (e : Fin 20480) (α : Type) (x y : α) : Scalar.select (isQ (fdiv (BitVec.ofNat 32 e) 2048#32)) x y
    = if e.val / 2048 % 3 = 0 ∧ e.val / 2048 < 9 then x else y := by
  have h : ∀ p : Fin 10, (isQ (BitVec.ofNat 32 p) = 1) ↔ (p.val % 3 = 0 ∧ p.val < 9) := by decide +kernel
  rw [fdiv_eq]
  exact if_congr (h ⟨e / 2048, by omega⟩) rfl rfl

/-- The scale of a column, as the host computes it. -/
theorem colScale_eq (e : Fin 20480) : colScale e
    = Scalar.select (isQ (fdiv (BitVec.ofNat 32 e) 2048#32)) qs (Ideal.ofBits .f32 0x3F800000#32) := by
  rw [isQ_eq, Ideal.ofBits_one_f32, colScale]

theorem qs_nonneg : 0 ≤ qs := by
  simp [qs, Ideal.ofBits, Ideal.ieee]
  norm_cast
  positivity

theorem qs_ne_top : qs ≠ ⊤ := by
  simp [qs, Ideal.ofBits, Ideal.ieee]
  exact EReal.coe_ne_top _

/-- A factor common to the weights comes out of the product. -/
theorem sum_mul_scale {n : ℕ} (f g : Fin n → EReal) (c : EReal) (h0 : 0 ≤ c) (h1 : c ≠ ⊤) :
    ∑ k, f k * (g k * c) = (∑ k, f k * g k) * c := by
  have h : ∀ s : Finset (Fin n), ∑ k ∈ s, f k * (g k * c) = (∑ k ∈ s, f k * g k) * c := fun s => by
    induction s using Finset.cons_induction with
    | empty => simp
    | cons a s ha ih => rw [Finset.sum_cons, Finset.sum_cons, ih, EReal.right_distrib_of_nonneg_of_ne_top h0 h1, mul_assoc]
  exact h _

theorem colScale_nonneg (e : ℕ) : 0 ≤ colScale e := by
  unfold colScale; split
  · exact qs_nonneg
  · exact zero_le_one

theorem colScale_ne_top (e : ℕ) : colScale e ≠ ⊤ := by
  unfold colScale; split
  · exact qs_ne_top
  · exact EReal.coe_ne_top 1

/-- A column of a scaled chunk. -/
theorem dilAt_scaled {h : (⟨3, ![8, 8192, 1024]⟩ : Shape).Idx → EReal} {w : (⟨3, ![1, 1024, 20480]⟩ : Shape).Idx → EReal}
    {i : Fin 65536} {e e' : Fin 20480} (he : e'.val = e.val) (hq : e.val / 2048 % 3 = 0 ∧ e.val / 2048 < 9) :
    (∑ k : Fin 1024, h (ix3 ⟨i / 8192, by omega⟩ ⟨i % 8192, by omega⟩ k) * w (ix3 0 k e')) * Ideal.ofBits .f32 0x3E38AA3B#32
      = dilAt h w i e := by
  obtain rfl := Fin.ext he
  rw [dilAt, colScale, if_pos hq, qs]

/-- A column of any other chunk. -/
theorem dilAt_plain {h : (⟨3, ![8, 8192, 1024]⟩ : Shape).Idx → EReal} {w : (⟨3, ![1, 1024, 20480]⟩ : Shape).Idx → EReal}
    {i : Fin 65536} {e e' : Fin 20480} (he : e'.val = e.val) (hq : ¬(e.val / 2048 % 3 = 0 ∧ e.val / 2048 < 9)) :
    ∑ k : Fin 1024, h (ix3 ⟨i / 8192, by omega⟩ ⟨i % 8192, by omega⟩ k) * w (ix3 0 k e') = dilAt h w i e := by
  obtain rfl := Fin.ext he
  rw [dilAt, colScale, if_neg hq, mul_one]

end Cert.LinSpec

end
-- ==== Proof.Lin.Dil0.lean ====
module

public import proofs.«01_k».proof.Proof.Gen.Dil0Ideal.Value
public import proofs.«01_k».proof.Proof.Gen.Dil0RefIdeal.Read
public import proofs.«01_k».proof.Proof.Lin.Weights
public import Idealize.ShloMosaic.Lib.Pipeline.ValueKit

/-! The dilated layer's first input projection: what the kernel's result array holds, and what the reference computes. -/

@[expose] public section

set_option maxRecDepth 16384

noncomputable section

namespace Cert.Dil0Ideal.Hand

open Cert.Dil0Ideal Cert.Dil0Ideal.Gen Cert.LinSpec Idealize.ShloMosaic Idealize.ShloMosaic.TcCoe Idealize.SL.Sem
open Idealize.ShloMosaic.Pipeline (Dat)

variable (m : (ℓ : Loc nD τ sig) → Buf (Elt Ideal) ℓ)

/-- The prescaled weights. -/
theorem w_at (c : Dev nD) (k : Fin 1024) (e : Fin 20480) : (V m c main_v15 : FVec Ideal S1024x20480 .bf16) (ix2 k e)
    = FloatOps.mulf (F := Ideal) (φ := .f32) ((m ((c : Thread nD τ).loc main_arg1) : FVec Ideal S1x1024x20480 .f32) (ix3 0 k e)) (colScale e) := by
  simp only [V, hostOps0, hostOps0_1, hostOps0_2, hostOps0_3, hostOps0_4, hostOps0_5, hostOps0_6, List.flatten_cons, List.flatten_nil, List.append_nil, List.cons_append,
      List.nil_append]
  after_results_simp
  simp -implicitDefEqProofs only [StableHlo.TRef.toBuf, StableHlo.TRef.ofBuf, cast_cast, cast_eq]
  pointwise
  exact congrArg (fun z : EReal => _ * z) (colScale_eq e).symm

/-- The tokens, one sequence after another. -/
theorem x_at (c : Dev nD) (i : Fin 65536) (k : Fin 1024) : (V m c main_v0 : FVec Ideal S65536x1024 .bf16) (ix2 i k)
    = (m ((c : Thread nD τ).loc main_arg0) : FVec Ideal S8x8192x1024 .bf16) (ix3 ⟨i / 8192, by omega⟩ ⟨i % 8192, by omega⟩ k) := by
  simp only [V, hostOps0, hostOps0_1, hostOps0_2, hostOps0_3, hostOps0_4, hostOps0_5, hostOps0_6, List.flatten_cons, List.flatten_nil, List.append_nil, List.cons_append,
      List.nil_append]
  after_results_simp
  pointwise

/-- One tile's values: the product. -/
theorem pay_at (x : FVec Ideal S1024x1024 .bf16) (w : FVec Ideal S1024x2048 .bf16) (r : Fin 1024) (e : Fin 2048) :
    k0_pay1 (F := Ideal) x w (ix2 r e) = ∑ k : Fin 1024, x (ix2 r k) * w (ix2 k e) := by
  pointwise [k0_pay1, zero_add]

/-- The windows' index maps at a grid point. -/
theorem idx : ∀ t : Fin cfg0.N, win0_0.index t = ![t.val / 4, 0]
    ∧ win0_1.index t = ![0, if t.val % 4 < 3 then t.val % 4 else 9]
    ∧ win0_2.index t = ![t.val / 4, t.val % 4] ∧ t.val < 256 :=
  (by decide +kernel : ∀ t : Fin grid0.N, _)

theorem blk0 (c : Dev nD) (t : Fin cfg0.N) (r k : Fin 1024) (h : t.val < 256) : iblk m c 0 t (ix2 r k)
    = (m ((c : Thread nD τ).loc main_arg0) : FVec Ideal S8x8192x1024 .bf16)
      (ix3 ⟨(1024 * (t.val / 4) + r) / 8192, by omega⟩ ⟨(1024 * (t.val / 4) + r) % 8192, by omega⟩ k) := by
  refine Eq.trans ?_ (x_at m c ⟨1024 * (t.val / 4) + r, by omega⟩ k)
  blk_point [iblk, idx t]

/-- The column of the weights that the result's column reads. -/
def col (e : Fin 8192) : Fin 20480 := ⟨if e.val < 6144 then e.val else e.val + 12288, by split <;> omega⟩

theorem blk1 (c : Dev nD) (t : Fin cfg0.N) (k : Fin 1024) (e : Fin 2048) : iblk m c 1 t (ix2 k e)
    = (V m c main_v15 : FVec Ideal S1024x20480 .bf16) (ix2 k (col ⟨2048 * (t.val % 4) + e, by omega⟩)) := by
  refine Eq.trans ?_ (congrArg (V m c main_v15) (congrArg (ix2 k) (Fin.ext ?_) :
    ix2 k (⟨2048 * (if t.val % 4 < 3 then t.val % 4 else 9) + e.val, by split <;> omega⟩ : Fin 20480) = _))
  · blk_point [iblk, idx t]
  · simp only [col]; split <;> split <;> omega

/-- What a point stores. -/
theorem tile_at (c : Dev nD) (t : Fin cfg0.N) (r : Fin 1024) (e : Fin 2048) (h : t.val < 256) :
    k0_pay1 (F := Ideal) (iblk m c 0 t) (iblk m c 1 t) (ix2 r e) = dilAt (m ((c : Thread nD τ).loc main_arg0))
      (m ((c : Thread nD τ).loc main_arg1)) ⟨1024 * (t.val / 4) + r, by omega⟩ (col ⟨2048 * (t.val % 4) + e, by omega⟩) := by
  unfold dilAt
  refine (pay_at ..).trans (Eq.trans ?_ (sum_mul_scale _ _ _ (colScale_nonneg _) (colScale_ne_top _)))
  exact Finset.sum_congr rfl fun k _ => congrArg₂ (· * ·) (blk0 m c t r k h) ((blk1 m c t k e).trans (w_at m c k _))

/-- The program's result array. -/
theorem final (c : Dev nD) : (dats m 0 c).arrAt 2 cfg0.N = fun i => dilAt (m ((c : Thread nD τ).loc main_arg0))
    (m ((c : Thread nD τ).loc main_arg1)) (i 0) (col (i 1)) := by
  refine (dats m 0 c).arrAt_eq_of_covers 2 _ (by decide +kernel) fun t hf y => ?_
  have h := (idx t).2.2.2
  blk_simp
  rw [after0_2, eq_ix2 y]
  frame_out
  refine (tile_at m c t (y 0) (y 1) h).trans (congr (congrArg (dilAt _ _) (Fin.ext ?_)) (congrArg col (Fin.ext ?_)))
  · blk_simp [idx t]; simp only; omega
  · blk_simp [idx t]; simp only; omega

end Cert.Dil0Ideal.Hand

namespace Cert.Dil0RefIdeal.Hand

open Cert.Dil0RefIdeal Cert.Dil0RefIdeal.Read Cert.LinSpec Idealize.ShloMosaic

/-- The reference's result. -/
theorem res_at (x : FVec Ideal S8x8192x1024 .bf16) (w : FVec Ideal S1x1024x20480 .f32) (i : Fin 65536) (e : Fin 8192) :
    val_main_v14 (F := Ideal) x w (ix2 i e) = dilAt x w i (Cert.Dil0Ideal.Hand.col e) := by
  pointwise [val_main_v14, val_main_v13, val_main_v12, val_main_v5, val_main_v7, val_main_v9, val_main_v11, val_main_v4, val_main_cst,
    val_main_v3, val_main_v2, val_main_v6, val_main_v8, val_main_v10, val_main_v1, val_main_v0]
  by_cases h0 : e.val < 2048
  · rw [dif_pos h0]
    exact dilAt_scaled (by simp only [Cert.Dil0Ideal.Hand.col]; split <;> omega) (by simp only [Cert.Dil0Ideal.Hand.col]; split <;> omega)
  have hq : ¬((Cert.Dil0Ideal.Hand.col e).val / 2048 % 3 = 0 ∧ (Cert.Dil0Ideal.Hand.col e).val / 2048 < 9) := by
    simp only [Cert.Dil0Ideal.Hand.col]; split <;> omega
  rw [dif_neg h0]
  by_cases h1 : e.val - 2048 < 2048
  · rw [dif_pos h1]
    exact dilAt_plain (by simp only [Cert.Dil0Ideal.Hand.col]; split <;> omega) hq
  rw [dif_neg h1]
  by_cases h2 : e.val - 2048 - 2048 < 2048
  · rw [dif_pos h2]
    exact dilAt_plain (by simp only [Cert.Dil0Ideal.Hand.col]; split <;> omega) hq
  rw [dif_neg h2]
  exact dilAt_plain (by simp only [Cert.Dil0Ideal.Hand.col]; split <;> omega) hq

end Cert.Dil0RefIdeal.Hand

end
-- ==== Proof.Lin.Dil1.lean ====
module

public import proofs.«01_k».proof.Proof.Gen.Dil1Ideal.Value
public import proofs.«01_k».proof.Proof.Gen.Dil1RefIdeal.Read
public import proofs.«01_k».proof.Proof.Lin.Weights
public import Idealize.ShloMosaic.Lib.Pipeline.ValueKit

/-! The dilated layer's second input projection: what the kernel's result array holds, and what the reference computes. -/

@[expose] public section

set_option maxRecDepth 16384

noncomputable section

namespace Cert.Dil1Ideal.Hand

open Cert.Dil1Ideal Cert.Dil1Ideal.Gen Cert.LinSpec Idealize.ShloMosaic Idealize.ShloMosaic.TcCoe Idealize.SL.Sem
open Idealize.ShloMosaic.Pipeline (Dat)

variable (m : (ℓ : Loc nD τ sig) → Buf (Elt Ideal) ℓ)

/-- The prescaled weights. -/
theorem w_at (c : Dev nD) (k : Fin 1024) (e : Fin 20480) : (V m c main_v15 : FVec Ideal S1024x20480 .bf16) (ix2 k e)
    = FloatOps.mulf (F := Ideal) (φ := .f32) ((m ((c : Thread nD τ).loc main_arg1) : FVec Ideal S1x1024x20480 .f32) (ix3 0 k e)) (colScale e) := by
  simp only [V, hostOps0, hostOps0_1, hostOps0_2, hostOps0_3, hostOps0_4, hostOps0_5, hostOps0_6, List.flatten_cons, List.flatten_nil, List.append_nil, List.cons_append,
      List.nil_append]
  after_results_simp
  simp -implicitDefEqProofs only [StableHlo.TRef.toBuf, StableHlo.TRef.ofBuf, cast_cast, cast_eq]
  pointwise
  exact congrArg (fun z : EReal => _ * z) (colScale_eq e).symm

/-- The tokens, one sequence after another. -/
theorem x_at (c : Dev nD) (i : Fin 65536) (k : Fin 1024) : (V m c main_v0 : FVec Ideal S65536x1024 .bf16) (ix2 i k)
    = (m ((c : Thread nD τ).loc main_arg0) : FVec Ideal S8x8192x1024 .bf16) (ix3 ⟨i / 8192, by omega⟩ ⟨i % 8192, by omega⟩ k) := by
  simp only [V, hostOps0, hostOps0_1, hostOps0_2, hostOps0_3, hostOps0_4, hostOps0_5, hostOps0_6, List.flatten_cons, List.flatten_nil, List.append_nil, List.cons_append,
      List.nil_append]
  after_results_simp
  pointwise

/-- One tile's values: the product. -/
theorem pay_at (x : FVec Ideal S1024x1024 .bf16) (w : FVec Ideal S1024x2048 .bf16) (r : Fin 1024) (e : Fin 2048) :
    k0_pay1 (F := Ideal) x w (ix2 r e) = ∑ k : Fin 1024, x (ix2 r k) * w (ix2 k e) := by
  pointwise [k0_pay1, zero_add]

/-- The windows' index maps at a grid point. -/
theorem idx : ∀ t : Fin cfg0.N, win0_0.index t = ![t.val / 3, 0]
    ∧ win0_1.index t = ![0, t.val % 3 + 3]
    ∧ win0_2.index t = ![t.val / 3, t.val % 3] ∧ t.val < 192 :=
  (by decide +kernel : ∀ t : Fin grid0.N, _)

theorem blk0 (c : Dev nD) (t : Fin cfg0.N) (r k : Fin 1024) (h : t.val < 192) : iblk m c 0 t (ix2 r k)
    = (m ((c : Thread nD τ).loc main_arg0) : FVec Ideal S8x8192x1024 .bf16)
      (ix3 ⟨(1024 * (t.val / 3) + r) / 8192, by omega⟩ ⟨(1024 * (t.val / 3) + r) % 8192, by omega⟩ k) := by
  refine Eq.trans ?_ (x_at m c ⟨1024 * (t.val / 3) + r, by omega⟩ k)
  blk_point [iblk, idx t]

/-- The column of the weights that the result's column reads. -/
def col (e : Fin 6144) : Fin 20480 := ⟨e.val + 6144, by omega⟩

theorem blk1 (c : Dev nD) (t : Fin cfg0.N) (k : Fin 1024) (e : Fin 2048) : iblk m c 1 t (ix2 k e)
    = (V m c main_v15 : FVec Ideal S1024x20480 .bf16) (ix2 k (col ⟨2048 * (t.val % 3) + e, by omega⟩)) := by
  refine Eq.trans ?_ (congrArg (V m c main_v15) (congrArg (ix2 k) (Fin.ext ?_) :
    ix2 k (⟨2048 * (t.val % 3 + 3) + e.val, by omega⟩ : Fin 20480) = _))
  · blk_point [iblk, idx t]
  · simp only [col]; omega

/-- What a point stores. -/
theorem tile_at (c : Dev nD) (t : Fin cfg0.N) (r : Fin 1024) (e : Fin 2048) (h : t.val < 192) :
    k0_pay1 (F := Ideal) (iblk m c 0 t) (iblk m c 1 t) (ix2 r e) = dilAt (m ((c : Thread nD τ).loc main_arg0))
      (m ((c : Thread nD τ).loc main_arg1)) ⟨1024 * (t.val / 3) + r, by omega⟩ (col ⟨2048 * (t.val % 3) + e, by omega⟩) := by
  unfold dilAt
  refine (pay_at ..).trans (Eq.trans ?_ (sum_mul_scale _ _ _ (colScale_nonneg _) (colScale_ne_top _)))
  exact Finset.sum_congr rfl fun k _ => congrArg₂ (· * ·) (blk0 m c t r k h) ((blk1 m c t k e).trans (w_at m c k _))

/-- The program's result array. -/
theorem final (c : Dev nD) : (dats m 0 c).arrAt 2 cfg0.N = fun i => dilAt (m ((c : Thread nD τ).loc main_arg0))
    (m ((c : Thread nD τ).loc main_arg1)) (i 0) (col (i 1)) := by
  refine (dats m 0 c).arrAt_eq_of_covers 2 _ (by decide +kernel) fun t hf y => ?_
  have h := (idx t).2.2.2
  blk_simp
  rw [after0_2, eq_ix2 y]
  frame_out
  refine (tile_at m c t (y 0) (y 1) h).trans (congr (congrArg (dilAt _ _) (Fin.ext ?_)) (congrArg col (Fin.ext ?_)))
  · blk_simp [idx t]; simp only; omega
  · blk_simp [idx t]; simp only; omega

end Cert.Dil1Ideal.Hand

namespace Cert.Dil1RefIdeal.Hand

open Cert.Dil1RefIdeal Cert.Dil1RefIdeal.Read Cert.LinSpec Idealize.ShloMosaic

/-- The reference's result. -/
theorem res_at (x : FVec Ideal S8x8192x1024 .bf16) (w : FVec Ideal S1x1024x20480 .f32) (i : Fin 65536) (e : Fin 6144) :
    val_main_v12 (F := Ideal) x w (ix2 i e) = dilAt x w i (Cert.Dil1Ideal.Hand.col e) := by
  pointwise [val_main_v12, val_main_v11, val_main_v10, val_main_v5, val_main_v7, val_main_v9, val_main_v4, val_main_cst,
    val_main_v3, val_main_v2, val_main_v6, val_main_v8, val_main_v1, val_main_v0]
  by_cases h0 : e.val < 2048
  · rw [dif_pos h0]
    exact dilAt_scaled (by simp only [Cert.Dil1Ideal.Hand.col]; omega) (by simp only [Cert.Dil1Ideal.Hand.col]; omega)
  have hq : ¬((Cert.Dil1Ideal.Hand.col e).val / 2048 % 3 = 0 ∧ (Cert.Dil1Ideal.Hand.col e).val / 2048 < 9) := by
    simp only [Cert.Dil1Ideal.Hand.col]; omega
  rw [dif_neg h0]
  by_cases h1 : e.val - 2048 < 2048
  · rw [dif_pos h1]
    exact dilAt_plain (by simp only [Cert.Dil1Ideal.Hand.col]; omega) hq
  rw [dif_neg h1]
  exact dilAt_plain (by simp only [Cert.Dil1Ideal.Hand.col]; omega) hq

end Cert.Dil1RefIdeal.Hand

end
-- ==== Proof.Lin.Dil2.lean ====
module

public import proofs.«01_k».proof.Proof.Gen.Dil2Ideal.Value
public import proofs.«01_k».proof.Proof.Gen.Dil2RefIdeal.Read
public import proofs.«01_k».proof.Proof.Lin.Weights
public import Idealize.ShloMosaic.Lib.Pipeline.ValueKit

/-! The dilated layer's third input projection: what the kernel's result array holds, and what the reference computes. -/

@[expose] public section

set_option maxRecDepth 16384

noncomputable section

namespace Cert.Dil2Ideal.Hand

open Cert.Dil2Ideal Cert.Dil2Ideal.Gen Cert.LinSpec Idealize.ShloMosaic Idealize.ShloMosaic.TcCoe Idealize.SL.Sem
open Idealize.ShloMosaic.Pipeline (Dat)

variable (m : (ℓ : Loc nD τ sig) → Buf (Elt Ideal) ℓ)

/-- The prescaled weights. -/
theorem w_at (c : Dev nD) (k : Fin 1024) (e : Fin 20480) : (V m c main_v15 : FVec Ideal S1024x20480 .bf16) (ix2 k e)
    = FloatOps.mulf (F := Ideal) (φ := .f32) ((m ((c : Thread nD τ).loc main_arg1) : FVec Ideal S1x1024x20480 .f32) (ix3 0 k e)) (colScale e) := by
  simp only [V, hostOps0, hostOps0_1, hostOps0_2, hostOps0_3, hostOps0_4, hostOps0_5, hostOps0_6, List.flatten_cons, List.flatten_nil, List.append_nil, List.cons_append,
      List.nil_append]
  after_results_simp
  simp -implicitDefEqProofs only [StableHlo.TRef.toBuf, StableHlo.TRef.ofBuf, cast_cast, cast_eq]
  pointwise
  exact congrArg (fun z : EReal => _ * z) (colScale_eq e).symm

/-- The tokens, one sequence after another. -/
theorem x_at (c : Dev nD) (i : Fin 65536) (k : Fin 1024) : (V m c main_v0 : FVec Ideal S65536x1024 .bf16) (ix2 i k)
    = (m ((c : Thread nD τ).loc main_arg0) : FVec Ideal S8x8192x1024 .bf16) (ix3 ⟨i / 8192, by omega⟩ ⟨i % 8192, by omega⟩ k) := by
  simp only [V, hostOps0, hostOps0_1, hostOps0_2, hostOps0_3, hostOps0_4, hostOps0_5, hostOps0_6, List.flatten_cons, List.flatten_nil, List.append_nil, List.cons_append,
      List.nil_append]
  after_results_simp
  pointwise

/-- One tile's values: the product. -/
theorem pay_at (x : FVec Ideal S1024x1024 .bf16) (w : FVec Ideal S1024x2048 .bf16) (r : Fin 1024) (e : Fin 2048) :
    k0_pay1 (F := Ideal) x w (ix2 r e) = ∑ k : Fin 1024, x (ix2 r k) * w (ix2 k e) := by
  pointwise [k0_pay1, zero_add]

/-- The windows' index maps at a grid point. -/
theorem idx : ∀ t : Fin cfg0.N, win0_0.index t = ![t.val / 3, 0]
    ∧ win0_1.index t = ![0, t.val % 3 + 6]
    ∧ win0_2.index t = ![t.val / 3, t.val % 3] ∧ t.val < 192 :=
  (by decide +kernel : ∀ t : Fin grid0.N, _)

theorem blk0 (c : Dev nD) (t : Fin cfg0.N) (r k : Fin 1024) (h : t.val < 192) : iblk m c 0 t (ix2 r k)
    = (m ((c : Thread nD τ).loc main_arg0) : FVec Ideal S8x8192x1024 .bf16)
      (ix3 ⟨(1024 * (t.val / 3) + r) / 8192, by omega⟩ ⟨(1024 * (t.val / 3) + r) % 8192, by omega⟩ k) := by
  refine Eq.trans ?_ (x_at m c ⟨1024 * (t.val / 3) + r, by omega⟩ k)
  blk_point [iblk, idx t]

/-- The column of the weights that the result's column reads. -/
def col (e : Fin 6144) : Fin 20480 := ⟨e.val + 12288, by omega⟩

theorem blk1 (c : Dev nD) (t : Fin cfg0.N) (k : Fin 1024) (e : Fin 2048) : iblk m c 1 t (ix2 k e)
    = (V m c main_v15 : FVec Ideal S1024x20480 .bf16) (ix2 k (col ⟨2048 * (t.val % 3) + e, by omega⟩)) := by
  refine Eq.trans ?_ (congrArg (V m c main_v15) (congrArg (ix2 k) (Fin.ext ?_) :
    ix2 k (⟨2048 * (t.val % 3 + 6) + e.val, by omega⟩ : Fin 20480) = _))
  · blk_point [iblk, idx t]
  · simp only [col]; omega

/-- What a point stores. -/
theorem tile_at (c : Dev nD) (t : Fin cfg0.N) (r : Fin 1024) (e : Fin 2048) (h : t.val < 192) :
    k0_pay1 (F := Ideal) (iblk m c 0 t) (iblk m c 1 t) (ix2 r e) = dilAt (m ((c : Thread nD τ).loc main_arg0))
      (m ((c : Thread nD τ).loc main_arg1)) ⟨1024 * (t.val / 3) + r, by omega⟩ (col ⟨2048 * (t.val % 3) + e, by omega⟩) := by
  unfold dilAt
  refine (pay_at ..).trans (Eq.trans ?_ (sum_mul_scale _ _ _ (colScale_nonneg _) (colScale_ne_top _)))
  exact Finset.sum_congr rfl fun k _ => congrArg₂ (· * ·) (blk0 m c t r k h) ((blk1 m c t k e).trans (w_at m c k _))

/-- The program's result array. -/
theorem final (c : Dev nD) : (dats m 0 c).arrAt 2 cfg0.N = fun i => dilAt (m ((c : Thread nD τ).loc main_arg0))
    (m ((c : Thread nD τ).loc main_arg1)) (i 0) (col (i 1)) := by
  refine (dats m 0 c).arrAt_eq_of_covers 2 _ (by decide +kernel) fun t hf y => ?_
  have h := (idx t).2.2.2
  blk_simp
  rw [after0_2, eq_ix2 y]
  frame_out
  refine (tile_at m c t (y 0) (y 1) h).trans (congr (congrArg (dilAt _ _) (Fin.ext ?_)) (congrArg col (Fin.ext ?_)))
  · blk_simp [idx t]; simp only; omega
  · blk_simp [idx t]; simp only; omega

end Cert.Dil2Ideal.Hand

namespace Cert.Dil2RefIdeal.Hand

open Cert.Dil2RefIdeal Cert.Dil2RefIdeal.Read Cert.LinSpec Idealize.ShloMosaic

/-- The reference's result. -/
theorem res_at (x : FVec Ideal S8x8192x1024 .bf16) (w : FVec Ideal S1x1024x20480 .f32) (i : Fin 65536) (e : Fin 6144) :
    val_main_v12 (F := Ideal) x w (ix2 i e) = dilAt x w i (Cert.Dil2Ideal.Hand.col e) := by
  pointwise [val_main_v12, val_main_v11, val_main_v10, val_main_v5, val_main_v7, val_main_v9, val_main_v4, val_main_cst,
    val_main_v3, val_main_v2, val_main_v6, val_main_v8, val_main_v1, val_main_v0]
  by_cases h0 : e.val < 2048
  · rw [dif_pos h0]
    exact dilAt_scaled (by simp only [Cert.Dil2Ideal.Hand.col]; omega) (by simp only [Cert.Dil2Ideal.Hand.col]; omega)
  have hq : ¬((Cert.Dil2Ideal.Hand.col e).val / 2048 % 3 = 0 ∧ (Cert.Dil2Ideal.Hand.col e).val / 2048 < 9) := by
    simp only [Cert.Dil2Ideal.Hand.col]; omega
  rw [dif_neg h0]
  by_cases h1 : e.val - 2048 < 2048
  · rw [dif_pos h1]
    exact dilAt_plain (by simp only [Cert.Dil2Ideal.Hand.col]; omega) hq
  rw [dif_neg h1]
  exact dilAt_plain (by simp only [Cert.Dil2Ideal.Hand.col]; omega) hq

end Cert.Dil2RefIdeal.Hand

end
-- ==== Proof.Lin.In.lean ====
module

public import proofs.«01_k».proof.Proof.Gen.InIdeal.Value
public import proofs.«01_k».proof.Proof.Gen.InRefIdeal.Read
public import proofs.«01_k».proof.Proof.Lin.Weights
public import proofs.«01_k».proof.Proof.Pool.Canon
public import Idealize.ShloMosaic.Lib.Pipeline.ValueKit

/-! The sliding-window layer's input projection: what the kernel's result array holds, and what the reference computes. -/

@[expose] public section

set_option maxRecDepth 16384

noncomputable section

namespace Cert.LinSpec

open Idealize.ShloMosaic

theorem inScale_nonneg (e : ℕ) : 0 ≤ inScale e := by
  unfold inScale; split
  · exact qs_nonneg
  · exact zero_le_one

theorem inScale_ne_top (e : ℕ) : inScale e ≠ ⊤ := by
  unfold inScale; split
  · exact qs_ne_top
  · exact EReal.coe_ne_top 1

theorem inCol_lo (e : Fin 4608) (h : e.val < 2048) : inCol e = e := Fin.ext (by simp only [inCol, if_pos h])

theorem inCol_mid (e : Fin 4608) (h0 : ¬e.val < 2048) (h1 : e.val < 4096) : (inCol e).val = 2560 + (e.val - 2048) := by
  simp only [inCol, if_neg h0, if_pos h1]; omega

theorem inCol_hi (e : Fin 4608) (h1 : ¬e.val < 4096) {n : ℕ} (hn : e.val - 2048 = n) : (inCol e).val = n := by
  rw [← hn]; simp only [inCol]; rw [if_neg (by omega), if_neg h1]

/-- A column of the queries. -/
theorem inAt_scaled {x : (⟨3, ![8, 8192, 1024]⟩ : Shape).Idx → EReal} {g : (⟨2, ![4, 1024]⟩ : Shape).Idx → EReal}
    {w : (⟨3, ![1, 1024, 4608]⟩ : Shape).Idx → EReal} {i : Fin 65536} {e e' : Fin 4608} (he : inCol e = e') (h : e.val < 2048) :
    (∑ k : Fin 1024, Cert.PoolSpec.rms (fun k => x (ix3 ⟨i / 8192, by omega⟩ ⟨i % 8192, by omega⟩ k)) (fun k => g (ix2 1 k)) k
      * w (ix3 0 k e')) * Ideal.ofBits .f32 0x3E38AA3B#32 = inAt x g w i e := by
  subst he; rw [inAt, inScale, if_pos h, qs]

/-- Any other column. -/
theorem inAt_plain {x : (⟨3, ![8, 8192, 1024]⟩ : Shape).Idx → EReal} {g : (⟨2, ![4, 1024]⟩ : Shape).Idx → EReal}
    {w : (⟨3, ![1, 1024, 4608]⟩ : Shape).Idx → EReal} {i : Fin 65536} {e e' : Fin 4608} (he : (inCol e).val = e'.val) (h : ¬e.val < 2048) :
    ∑ k : Fin 1024, Cert.PoolSpec.rms (fun k => x (ix3 ⟨i / 8192, by omega⟩ ⟨i % 8192, by omega⟩ k)) (fun k => g (ix2 1 k)) k
      * w (ix3 0 k e') = inAt x g w i e := by
  obtain rfl := Fin.ext he
  rw [inAt, inScale, if_neg h, mul_one]

end Cert.LinSpec

namespace Cert.InIdeal.Hand

open Cert.InIdeal Cert.InIdeal.Gen Cert.LinSpec Cert.PoolSpec Idealize.ShloMosaic Idealize.ShloMosaic.TcCoe Idealize.SL.Sem
open Idealize.ShloMosaic.Pipeline (Dat)

variable (m : (ℓ : Loc nD τ sig) → Buf (Elt Ideal) ℓ)

/-- The reordered weights with the queries' columns scaled. -/
theorem w_at (c : Dev nD) (k : Fin 1024) (e : Fin 4608) : (V m c main_v8 : FVec Ideal S1024x4608 .bf16) (ix2 k e)
    = FloatOps.mulf (F := Ideal) (φ := .f32) ((m ((c : Thread nD τ).loc main_arg2) : FVec Ideal S1x1024x4608 .f32) (ix3 0 k (inCol e)))
      (inScale e) := by
  simp only [V, hostOps0]
  after_results_simp
  pointwise
  after_results_simp
  pointwise
  by_cases h0 : e.val < 2048
  · rw [dif_pos h0, inScale, if_pos h0, qs, inCol_lo e h0]
  rw [dif_neg h0, inScale, if_neg h0, mul_one]
  by_cases h1 : e.val - 2048 < 2048
  · rw [dif_pos h1, show inCol e = ⟨2560 + (e.val - 2048), by omega⟩ from Fin.ext (inCol_mid e (by omega) (by omega))]
  rw [dif_neg h1]
  by_cases h2 : e.val - 2048 - 2048 < 256
  · rw [dif_pos h2, show inCol e = ⟨2048 + (e.val - 2048 - 2048), by omega⟩ from Fin.ext (inCol_hi e (by omega) (by simp only; omega))]
  rw [dif_neg h2, show inCol e = ⟨2304 + (e.val - 2048 - 2048 - 256), by omega⟩ from Fin.ext (inCol_hi e (by omega) (by simp only; omega))]

/-- The first half's values: the product of the normed tokens. -/
theorem pay2_at (x : FVec Ideal S512x1024 .f32) (g : FVec Ideal S1x1024 .f32) (w : FVec Ideal S1024x4608 .bf16) (r : Fin 512) (e : Fin 4608) :
    k0_pay2 (F := Ideal) x g w (ix2 r e) = ∑ k : Fin 1024, rms (fun k => x (ix2 r k)) (fun k => g (ix2 0 k)) k * w (ix2 k e) := by
  pointwise [k0_pay2, rms, zero_add]

/-- The second half's values are the same function. -/
theorem pay1_at (x : FVec Ideal S512x1024 .f32) (g : FVec Ideal S1x1024 .f32) (w : FVec Ideal S1024x4608 .bf16) (r : Fin 512) (e : Fin 4608) :
    k0_pay1 (F := Ideal) (k0_pay3 x g) w (ix2 r e)
      = ∑ k : Fin 1024, rms (fun k => x (ix2 r k)) (fun k => g (ix2 0 k)) k * w (ix2 k e) := by
  pointwise [k0_pay1, k0_pay3, rms, zero_add]

/-- A load of a rectangle read at a row and a column. -/
theorem ld_at {Val : EltTy → Type} {e : EltTy} {N W : ℕ} (x : (⟨2, ![N, W]⟩ : Shape).Idx → Val e) (o p n w : ℕ)
    (inb : ∀ a, (![o, p] : Fin 2 → ℕ) a + (![n, w] : Fin 2 → ℕ) a ≤ (⟨2, ![N, W]⟩ : Shape).size a) (i : Fin n) (j : Fin w)
    (y : (⟨2, ![N, W]⟩ : Shape).Idx) (h0 : (y 0).val = o + i) (h1 : (y 1).val = p + j) :
    View.ld x (Rect.unit (s := ⟨2, ![N, W]⟩) ![o, p] ![n, w] inb) (ix2 i j) = x y := by
  refine congrArg x (funext fun a => Fin.ext ?_)
  match a with
  | ⟨0, _⟩ => exact (by show o + 1 * i.val = o + i.val; omega : _ = o + i.val).trans h0.symm
  | ⟨1, _⟩ => exact (by show p + 1 * j.val = p + j.val; omega : _ = p + j.val).trans h1.symm

/-- One tile's values. -/
theorem out_at (x : FVec Ideal S1024x1024 .f32) (g : FVec Ideal S1x1024 .f32) (w : FVec Ideal S1024x4608 .bf16) (r : Fin 1024) (e : Fin 4608) :
    out0_3 (F := Ideal) x g w (ix2 r e) = ∑ k : Fin 1024, rms (fun k => x (ix2 r k)) (fun k => g (ix2 0 k)) k * w (ix2 k e) := by
  unfold out0_3
  have hg : ∀ k : Fin 1024, (View.ld (Val := Elt Ideal) (e' := .f32) g r0_1 (ix2 0 k) : EReal) = g (ix2 0 k) := fun k =>
    congrFun (View.ld_unit_lit (Val := Elt Ideal) (e := .f32) _ g (by decide)) (ix2 0 k)
  have hw : ∀ (k : Fin 1024) (e' : Fin 4608), e'.val = e.val → (View.ld (Val := Elt Ideal) (e' := .bf16) w r0_2 (ix2 k e') : EReal) = w (ix2 k e) := fun k e' he =>
    (congrFun (View.ld_unit_lit (Val := Elt Ideal) (e := .bf16) _ w (by decide)) (ix2 k e')).trans (congrArg (fun e => w (ix2 k e)) (Fin.ext he))
  refine (Cert.Mat.canon_at 512 0 512 4608 _ _ _ r e).trans ?_
  split
  · next h =>
    refine (pay1_at _ _ _ _ _).trans (Finset.sum_congr rfl fun k _ => congrArg₂ (· * ·)
      (congr (congr (congrArg rms (funext fun k => ?_)) (funext hg)) rfl) (hw k _ rfl))
    exact ld_at (Val := Elt Ideal) (e := .f32) x 512 0 512 1024 _ ⟨r - 512, by omega⟩ k (ix2 r k) (by show r.val = 512 + (r.val - 512); omega) (Nat.zero_add _).symm
  · next h =>
    refine (Cert.Mat.canon_at 0 0 512 4608 _ _ _ r e).trans ?_
    rw [dif_pos (by omega)]
    refine (pay2_at _ _ _ _ _).trans (Finset.sum_congr rfl fun k _ => congrArg₂ (· * ·)
      (congr (congr (congrArg rms (funext fun k => ?_)) (funext hg)) rfl) (hw k _ rfl))
    exact ld_at (Val := Elt Ideal) (e := .f32) x 0 0 512 1024 _ ⟨r - 0, by omega⟩ k (ix2 r k) (by show r.val = 0 + (r.val - 0); omega) (Nat.zero_add _).symm

/-- The windows' index maps at a grid point. -/
theorem idx : ∀ t : Fin cfg0.N, win0_0.index t = ![t.val, 0] ∧ win0_1.index t = ![0, 0] ∧ win0_2.index t = ![0, 0]
    ∧ win0_3.index t = ![t.val, 0] ∧ t.val < 64 :=
  (by decide +kernel : ∀ t : Fin grid0.N, _)

theorem blk0 (c : Dev nD) (t : Fin cfg0.N) (r k : Fin 1024) (h : t.val < 64) : iblk m c 0 t (ix2 r k)
    = (m ((c : Thread nD τ).loc main_arg0) : FVec Ideal S8x8192x1024 .f32)
      (ix3 ⟨(1024 * t.val + r) / 8192, by omega⟩ ⟨(1024 * t.val + r) % 8192, by omega⟩ k) := by
  blk_point [iblk, V, idx t]

theorem blk1 (c : Dev nD) (t : Fin cfg0.N) (k : Fin 1024) : iblk m c 1 t (ix2 0 k)
    = (m ((c : Thread nD τ).loc main_arg1) : FVec Ideal S4x1024 .f32) (ix2 1 k) := by
  blk_point [iblk, V, idx t]

theorem blk2 (c : Dev nD) (t : Fin cfg0.N) (k : Fin 1024) (e : Fin 4608) : iblk m c 2 t (ix2 k e)
    = (V m c main_v8 : FVec Ideal S1024x4608 .bf16) (ix2 k e) := by
  blk_point [iblk, idx t]

/-- What a point stores. -/
theorem tile_at (c : Dev nD) (t : Fin cfg0.N) (r : Fin 1024) (e : Fin 4608) (h : t.val < 64) :
    out0_3 (F := Ideal) (iblk m c 0 t) (iblk m c 1 t) (iblk m c 2 t) (ix2 r e) = inAt (m ((c : Thread nD τ).loc main_arg0))
      (m ((c : Thread nD τ).loc main_arg1)) (m ((c : Thread nD τ).loc main_arg2)) ⟨1024 * t.val + r, by omega⟩ e := by
  unfold inAt
  refine (out_at ..).trans (Eq.trans ?_ (sum_mul_scale _ _ _ (inScale_nonneg _) (inScale_ne_top _)))
  exact Finset.sum_congr rfl fun k _ => congrArg₂ (· * ·)
    (congr (congr (congrArg rms (funext fun k => blk0 m c t r k h)) (funext fun k => blk1 m c t k)) rfl) ((blk2 m c t k e).trans (w_at m c k e))

/-- The program's result array. -/
theorem final (c : Dev nD) : (dats m 0 c).arrAt 3 cfg0.N = fun i => inAt (m ((c : Thread nD τ).loc main_arg0))
    (m ((c : Thread nD τ).loc main_arg1)) (m ((c : Thread nD τ).loc main_arg2)) (i 0) (i 1) := by
  refine (dats m 0 c).arrAt_eq_of_covers 3 _ (by decide +kernel) fun t hf y => ?_
  have h := (idx t).2.2.2.2
  blk_simp
  rw [after0_3, eq_ix2 y]
  refine (tile_at m c t (y 0) (y 1) h).trans (congr (congrArg (inAt _ _ _) (Fin.ext ?_)) (Fin.ext ?_))
  · blk_simp [idx t]; simp only; omega
  · blk_simp [idx t]

end Cert.InIdeal.Hand

namespace Cert.InRefIdeal.Hand

open Cert.InRefIdeal Cert.InRefIdeal.Read Cert.LinSpec Cert.PoolSpec Idealize.ShloMosaic

/-- The reference's normed tokens. -/
theorem norm_at (x : FVec Ideal S8x8192x1024 .f32) (g : FVec Ideal S4x1024 .f32) (b : Fin 8) (n : Fin 8192) (k : Fin 1024) :
    val_main_v14 (F := Ideal) x g (ix3 b n k) = rms (fun k => x (ix3 b n k)) (fun k => g (ix2 1 k)) k := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, rms, zero_add]

/-- The reference's result. -/
theorem res_at (x : FVec Ideal S8x8192x1024 .f32) (g : FVec Ideal S4x1024 .f32) (w : FVec Ideal S1x1024x4608 .f32)
    (i : Fin 65536) (e : Fin 4608) : val_main_v25 (F := Ideal) x g w (ix2 i e) = inAt x g w i e := by
  pointwise [val_main_v25, val_main_v24, val_main_v23, val_main_v22, val_main_v21, val_main_cst_2, val_main_v20, val_main_v19, val_main_v18,
    val_main_v17, val_main_v16, val_main_v15]
  simp only [norm_at]
  by_cases h0 : e.val < 2048
  · rw [dif_pos h0]
    exact inAt_scaled (inCol_lo e h0) h0
  rw [dif_neg h0]
  by_cases h1 : e.val - 2048 < 2048
  · rw [dif_pos h1]
    exact inAt_plain (inCol_mid e h0 (by omega)) h0
  rw [dif_neg h1]
  by_cases h2 : e.val - 2048 - 2048 < 256
  · rw [dif_pos h2]
    exact inAt_plain (inCol_hi e (by omega) (by simp only; omega)) h0
  rw [dif_neg h2]
  exact inAt_plain (inCol_hi e (by omega) (by simp only; omega)) h0

end Cert.InRefIdeal.Hand

end
-- ==== Proof.Lin.Out.lean ====
module

public import proofs.«01_k».proof.Proof.Gen.OutIdeal.Value
public import proofs.«01_k».proof.Proof.Gen.OutRefIdeal.Read
public import proofs.«01_k».proof.Proof.Lin.Spec
public import Idealize.ShloMosaic.Lib.Pipeline.ValueKit

/-! The output projection of the dilated layer: what the kernel's result array holds, and what the reference computes. -/

@[expose] public section

set_option maxRecDepth 16384

noncomputable section

namespace Cert.OutIdeal.Hand

open Cert.OutIdeal Cert.OutIdeal.Gen Cert.LinSpec Idealize.ShloMosaic Idealize.ShloMosaic.TcCoe Idealize.SL.Sem
open Idealize.ShloMosaic.Pipeline (Dat)

variable (m : (ℓ : Loc nD τ sig) → Buf (Elt Ideal) ℓ)

/-- One tile's values: the stream plus the product. -/
theorem pay_at (x : FVec Ideal S1024x1024 .f32) (y : FVec Ideal S1024x2048 .bf16) (w : FVec Ideal S2048x1024 .bf16) (r d : Fin 1024) :
    k0_pay1 (F := Ideal) x y w (ix2 r d) = x (ix2 r d) + ∑ e : Fin 2048, y (ix2 r e) * w (ix2 e d) := by
  pointwise [k0_pay1, zero_add]

/-- The windows' index maps at a grid point. -/
theorem idx : ∀ t : Fin cfg0.N, win0_0.index t = ![t.val, 0] ∧ win0_1.index t = ![t.val, 0] ∧ win0_2.index t = ![0, 0]
    ∧ win0_3.index t = ![t.val, 0] ∧ t.val < 64 :=
  (by decide +kernel : ∀ t : Fin grid0.N, _)

theorem blk0 (c : Dev nD) (t : Fin cfg0.N) (r d : Fin 1024) (h : t.val < 64) : iblk m c 0 t (ix2 r d)
    = (m ((c : Thread nD τ).loc main_arg0) : FVec Ideal S8x8192x1024 .f32)
      (ix3 ⟨(1024 * t.val + r) / 8192, by omega⟩ ⟨(1024 * t.val + r) % 8192, by omega⟩ d) := by
  blk_point [iblk, V, idx t]

theorem blk1 (c : Dev nD) (t : Fin cfg0.N) (r : Fin 1024) (e : Fin 2048) (h : t.val < 64) : iblk m c 1 t (ix2 r e)
    = (m ((c : Thread nD τ).loc main_arg1) : FVec Ideal S8x8192x2048 .bf16)
      (ix3 ⟨(1024 * t.val + r) / 8192, by omega⟩ ⟨(1024 * t.val + r) % 8192, by omega⟩ e) := by
  blk_point [iblk, V, idx t]

theorem blk2 (c : Dev nD) (t : Fin cfg0.N) (e : Fin 2048) (d : Fin 1024) : iblk m c 2 t (ix2 e d)
    = (m ((c : Thread nD τ).loc main_arg2) : FVec Ideal S4x2048x1024 .f32) (ix3 2 e d) := by
  blk_point [iblk, V, idx t]

/-- What a point stores. -/
theorem tile_at (c : Dev nD) (t : Fin cfg0.N) (r d : Fin 1024) (h : t.val < 64) :
    k0_pay1 (F := Ideal) (iblk m c 0 t) (iblk m c 1 t) (iblk m c 2 t) (ix2 r d) = outAt (m ((c : Thread nD τ).loc main_arg0))
      (m ((c : Thread nD τ).loc main_arg1)) (m ((c : Thread nD τ).loc main_arg2)) ⟨1024 * t.val + r, by omega⟩ d := by
  unfold outAt
  exact (pay_at ..).trans (congrArg₂ (· + ·) (blk0 m c t r d h)
    (Finset.sum_congr rfl fun e _ => congrArg₂ (· * ·) (blk1 m c t r e h) (blk2 m c t e d)))

/-- The program's result array. -/
theorem final (c : Dev nD) : (dats m 0 c).arrAt 3 cfg0.N = fun i => outAt (m ((c : Thread nD τ).loc main_arg0))
    (m ((c : Thread nD τ).loc main_arg1)) (m ((c : Thread nD τ).loc main_arg2)) (i 0) (i 1) := by
  refine (dats m 0 c).arrAt_eq_of_covers 3 _ (by decide +kernel) fun t hf y => ?_
  have h := (idx t).2.2.2.2
  blk_simp
  rw [after0_3, eq_ix2 y]
  frame_out
  refine (tile_at m c t (y 0) (y 1) h).trans (congr (congrArg (outAt _ _ _) (Fin.ext ?_)) (Fin.ext ?_))
  · blk_simp [idx t]; simp only; omega
  · blk_simp [idx t]

end Cert.OutIdeal.Hand

namespace Cert.OutRefIdeal.Hand

open Cert.OutRefIdeal Cert.OutRefIdeal.Read Cert.LinSpec Idealize.ShloMosaic

/-- The reference's result. -/
theorem res_at (x : FVec Ideal S8x8192x1024 .f32) (y : FVec Ideal S8x8192x2048 .bf16) (w : FVec Ideal S4x2048x1024 .f32)
    (i : Fin 65536) (d : Fin 1024) : val_main_v5 (F := Ideal) x y w (ix2 i d) = outAt x y w i d := by
  unfold outAt
  pointwise [val_main_v5, val_main_v4, val_main_v3, val_main_v2, val_main_v1, val_main_v0]

end Cert.OutRefIdeal.Hand

end
-- ==== Proof.Str.Pieces.lean ====
module

public import proofs.«01_k».proof.Proof.Gen.StreamsIdeal.Value
public import Idealize.ShloMosaic.Lib.Pipeline.ValueKit

/-! The stores of one grid point, numbered: the normed columns in chunks of 128, and the two scratch buffers through which the
tokens are reordered. Each list is the recursion over its stores, the last store first. -/

@[expose] public section

set_option maxRecDepth 65536

noncomputable section

namespace Cert.StreamsIdeal.Hand

open Cert.StreamsIdeal Cert.StreamsIdeal.Gen Idealize.ShloMosaic Idealize.ShloMosaic.TcCoe Idealize.SL.Sem
open Idealize.ShloMosaic.Pipeline (Dat)

variable {F : FTy → Type} [FloatOps F]

theorem inb3 (a b d u v w A B D : ℕ) (h0 : a + u ≤ A) (h1 : b + v ≤ B) (h2 : d + w ≤ D) :
    ∀ i : Fin 3, (![a, b, d] : Fin 3 → ℕ) i + (![u, v, w] : Fin 3 → ℕ) i ≤ (![A, B, D] : Fin 3 → ℕ) i := fun i =>
  match i with
  | ⟨0, _⟩ => h0
  | ⟨1, _⟩ => h1
  | ⟨2, _⟩ => h2

theorem inb3s (a b d v s A B D : ℕ) (h0 : a < A) (h1 : b + s * (v - 1) < B) (h2 : d + 128 ≤ D) :
    ∀ i : Fin 3, (![1, v, 128] : Fin 3 → ℕ) i = 0
      ∨ (![a, b, d] : Fin 3 → ℕ) i + (![1, s, 1] : Fin 3 → ℕ) i * ((![1, v, 128] : Fin 3 → ℕ) i - 1) < (![A, B, D] : Fin 3 → ℕ) i := fun i =>
  match i with
  | ⟨0, _⟩ => Or.inr (by show a + 1 * (1 - 1) < A; omega)
  | ⟨1, _⟩ => Or.inr h1
  | ⟨2, _⟩ => Or.inr (by show d + 1 * (128 - 1) < D; omega)

variable (arg2 : Memref sig .tc .vmem S1x2048x1024 .f32) (harg2 : arg2.IsWhole)
  (arg3 : Memref sig .tc .vmem S1x1024 .f32) (harg3 : arg3.IsWhole)
  (x0 : Vec F S1x2048x1024 .f32) (x1 : Vec F S1x1024 .f32)

/-- Chunk `k` of the tile's columns. -/
def xs (k : ℕ) : Vec F S1x2048x128 .f32 :=
  View.readAt (Elt F) arg2.view (Rect.unit (s := S1x2048x1024) ![0, 0, 128 * (k % 8)] S1x2048x128.size
    (inb3 _ _ _ _ _ _ _ _ _ (by decide) (by decide) (by omega))).toLoadRect (harg2.unread x0)

theorem ginb (k : ℕ) : ∀ i : Fin 2, (![0, 128 * (k % 8)] : Fin 2 → ℕ) i + S1x128.size i ≤ S1x1024.size i := fun i =>
  match i with
  | ⟨0, _⟩ => by show 0 + 1 ≤ 1; omega
  | ⟨1, _⟩ => by show 128 * (k % 8) + 128 ≤ 1024; omega

/-- Chunk `k` of the norm's weights. -/
def gs (k : ℕ) : Vec F S1x128 .f32 :=
  View.readAt (Elt F) arg3.view (Rect.unit (s := S1x1024) ![0, 128 * (k % 8)] S1x128.size (ginb k)).toLoadRect (harg3.unread x1)

/-- The tokens' reciprocal root mean squares. -/
def inv : FVec F S2048x1 .f32 :=
  k0_pay5 (k0_pay3 (xs arg2 harg2 x0 0) (xs arg2 harg2 x0 1) (xs arg2 harg2 x0 2) (xs arg2 harg2 x0 3) (xs arg2 harg2 x0 4))
    (k0_pay4 (xs arg2 harg2 x0 5)) (xs arg2 harg2 x0 6) (xs arg2 harg2 x0 7)

/-- Chunk `k` of the normed columns. -/
def hc (k : ℕ) : FVec F S2048x128 .f32 := k0_pay1201 (inv arg2 harg2 x0) (xs arg2 harg2 x0 k) (gs arg3 harg3 x1 k)

/-- The first `n` stores into the first output: the chunks as they are. -/
def out0L : ℕ → List (View.Piece (Elt F) S1x2048x1024 .bf16)
  | 0 => []
  | n + 1 => ⟨Rect.unit (s := S1x2048x1024) ![0, 0, 128 * (n % 8)] S1x2048x128.size
      (inb3 _ _ _ _ _ _ _ _ _ (by decide) (by decide) (by omega)),
      k0_pay1202 (inv arg2 harg2 x0) (xs arg2 harg2 x0 n) (gs arg3 harg3 x1 n)⟩ :: out0L n

/-- The first `n` stores into the first scratch buffer: chunk `n` into its half `n % 2`. -/
def slabL : ℕ → List (View.Piece (Elt F) S2x2048x128 .f32)
  | 0 => []
  | n + 1 => ⟨Rect.unit (s := S2x2048x128) ![n % 2, 0, 0] S1x2048x128.size
      (inb3 _ _ _ _ _ _ _ _ _ (by omega) (by decide) (by decide)),
      k0_pay1203 (hc arg2 harg2 arg3 harg3 x0 x1 n)⟩ :: slabL n

/-- Sixteen rows of a chunk, from row `16 l` on. -/
def rows16 (l : ℕ) (v : FVec F S2048x128 .f32) : FVec F S1x16x128 .f32 :=
  shapeCast S1x16x128 (extractStridedSlice S16x128 ![16 * (l % 128), 0] v
    ⟨rfl, fun a => match a with
      | ⟨0, _⟩ => by show 16 * (l % 128) + 16 ≤ 2048; omega
      | ⟨1, _⟩ => by show 0 + 128 ≤ 128; omega⟩) shapeCasts_S16x128_S1x16x128

/-- The first `n` stores into the second scratch buffer: the sixteen rows `l = n % 128` of chunk `n / 128`, at row `24 l` of its half. -/
def padL : ℕ → List (View.Piece (Elt F) S2x3072x128 .f32)
  | 0 => []
  | n + 1 => ⟨Rect.unit (s := S2x3072x128) ![n / 128 % 2, 24 * (n % 128), 0] S1x16x128.size
      (inb3 _ _ _ _ _ _ _ _ _ (by omega) (by omega) (by decide)),
      rows16 (n % 128) (hc arg2 harg2 arg3 harg3 x0 x1 (n / 128))⟩ :: padL n

variable (arg7 : Memref sig .tc .vmem S2x2048x128 .f32) (arg8 : Memref sig .tc .vmem S2x3072x128 .f32)

/-- The first `n` stores into the second output: residue `n % 4` of chunk `n / 4`. -/
def out1L : ℕ → List (View.Piece (Elt F) S1x2048x1024 .bf16)
  | 0 => []
  | n + 1 => ⟨Rect.unit (s := S1x2048x1024) ![0, 512 * (n % 4), 128 * (n / 4 % 8)] S1x512x128.size
      (inb3 _ _ _ _ _ _ _ _ _ (by decide) (by omega) (by omega)),
      k0_pay1207 (arg7.view.readCov (slabL arg2 harg2 arg3 harg3 x0 x1 (n / 4 + 1))
        { off := ![n / 4 % 2, n % 4, 0], size := S1x512x128.size, stride := ![1, 4, 1],
          inb := inb3s _ _ _ 512 4 _ _ _ (by omega) (by omega) (by decide) })⟩ :: out1L n

/-- The first `n` stores into the third output: residue `n % 16` of chunk `n / 16`. -/
def out2L : ℕ → List (View.Piece (Elt F) S1x2048x1024 .bf16)
  | 0 => []
  | n + 1 => ⟨Rect.unit (s := S1x2048x1024) ![0, 128 * (n % 16), 128 * (n / 16 % 8)] S1x128x128.size
      (inb3 _ _ _ _ _ _ _ _ _ (by decide) (by omega) (by omega)),
      k0_pay2 (arg8.view.readCov (padL arg2 harg2 arg3 harg3 x0 x1 (128 * (n / 16 + 1)))
        { off := ![n / 16 % 2, n % 16, 0], size := S1x128x128.size, stride := ![1, 24, 1],
          inb := inb3s _ _ _ 128 24 _ _ _ (by omega) (by omega) (by decide) })⟩ :: out2L n

variable (c : Dev nD) (i : grid0.Coords) (harg7 : arg7.IsWhole) (harg8 : arg8.IsWhole)
  (arg4 : Memref sig .tc .vmem S1x2048x1024 .bf16) (harg4 : arg4.IsWhole) (arg5 : Memref sig .tc .vmem S1x2048x1024 .bf16) (harg5 : arg5.IsWhole)
  (arg6 : Memref sig .tc .vmem S1x2048x1024 .bf16) (harg6 : arg6.IsWhole)

/-- The run's stores are those. -/
theorem run0 : (kernelRun0_A c i arg2 harg2 arg3 harg3 arg4 harg4 arg5 harg5 arg6 harg6 arg7 harg7 arg8 harg8 x0 x1).1
    = out0L arg2 harg2 arg3 harg3 x0 x1 8 := by
  sl_kernel_rfl

theorem run1 : (kernelRun0_A c i arg2 harg2 arg3 harg3 arg4 harg4 arg5 harg5 arg6 harg6 arg7 harg7 arg8 harg8 x0 x1).2.1
    = out1L arg2 harg2 arg3 harg3 x0 x1 arg7 32 := by
  sl_kernel_rfl

theorem run2 : (kernelRun0_A c i arg2 harg2 arg3 harg3 arg4 harg4 arg5 harg5 arg6 harg6 arg7 harg7 arg8 harg8 x0 x1).2.2.1
    = out2L arg2 harg2 arg3 harg3 x0 x1 arg8 128 := by
  sl_kernel_rfl

end Cert.StreamsIdeal.Hand
end
-- ==== Proof.Str.Vals.lean ====
module

public import proofs.«01_k».proof.Proof.Str.Pieces
public import proofs.«01_k».proof.Proof.Pool.Spec
public import Idealize.ShloMosaic.Lib.WholeRead

/-! What the stores of one grid point leave in the three outputs, over the ideal numbers. -/

@[expose] public section

set_option maxRecDepth 16384

noncomputable section

namespace Cert.StreamsIdeal.Hand

open Cert.StreamsIdeal Cert.StreamsIdeal.Gen Cert.PoolSpec Idealize.ShloMosaic Idealize.ShloMosaic.TcCoe Idealize.SL.Sem
open Idealize.ShloMosaic.Pipeline (Dat)

/-- The last store's rectangle holds its payload; outside it the earlier stores show. -/
theorem canon3 {Val : EltTy → Type} [∀ e, Nonempty (Val e)] {e : EltTy} {A B D : ℕ} (a b d u v w : ℕ)
    (inb : ∀ i, (![a, b, d] : Fin 3 → ℕ) i + (![u, v, w] : Fin 3 → ℕ) i ≤ (⟨3, ![A, B, D]⟩ : Shape).size i)
    (f : (⟨3, ![u, v, w]⟩ : Shape).Idx → Val e) (L : List (View.Piece Val (⟨3, ![A, B, D]⟩ : Shape) e)) (i : Fin A) (j : Fin B) (k : Fin D) :
    View.canon ((⟨Rect.unit (s := ⟨3, ![A, B, D]⟩) ![a, b, d] ![u, v, w] inb, f⟩ : View.Piece Val (⟨3, ![A, B, D]⟩ : Shape) e) :: L) (ix3 i j k)
      = if h : (a ≤ i.val ∧ i.val < a + u) ∧ (b ≤ j.val ∧ j.val < b + v) ∧ (d ≤ k.val ∧ k.val < d + w) then
          f (ix3 ⟨i - a, by omega⟩ ⟨j - b, by omega⟩ ⟨k - d, by omega⟩)
        else View.canon L (ix3 i j k) := by
  split
  · next h =>
    have hx : (Rect.unit (s := ⟨3, ![A, B, D]⟩) ![a, b, d] ![u, v, w] inb).emb (ix3 ⟨i - a, by omega⟩ ⟨j - b, by omega⟩ ⟨k - d, by omega⟩)
        = ix3 i j k := by
      funext x
      refine Fin.ext ?_
      rw [Rect.emb_apply]
      match x with
      | ⟨0, _⟩ => show a + 1 * (i.val - a) = i.val; omega
      | ⟨1, _⟩ => show b + 1 * (j.val - b) = j.val; omega
      | ⟨2, _⟩ => show d + 1 * (k.val - d) = k.val; omega
    conv_lhs => rw [← hx]
    exact View.canon_cons_emb (Rect.unit (s := ⟨3, ![A, B, D]⟩) ![a, b, d] ![u, v, w] inb) f L _
  · next h =>
    refine View.canon_cons_of_not_mem _ L fun hm => h ?_
    have := (Rect.mem_set_unit (inb := inb)).mp hm
    exact ⟨this 0, this 1, this 2⟩

/-- A load of every `s`-th row reads the stores at those rows. -/
theorem readCov3 {Val : EltTy → Type} [∀ e, Nonempty (Val e)] {e : EltTy} {A B D : ℕ} {sig : RefSig} {κ : Kind} {sp : Space}
    (vw : View sig κ sp (⟨3, ![A, B, D]⟩ : Shape) e) (a b d v s : ℕ)
    (inb : ∀ i : Fin 3, (![1, v, 128] : Fin 3 → ℕ) i = 0
      ∨ (![a, b, d] : Fin 3 → ℕ) i + (![1, s, 1] : Fin 3 → ℕ) i * ((![1, v, 128] : Fin 3 → ℕ) i - 1) < (![A, B, D] : Fin 3 → ℕ) i)
    (L : List (View.Piece Val (⟨3, ![A, B, D]⟩ : Shape) e)) (q : Fin v) (l : Fin 128) (i : Fin A) (j : Fin B) (k : Fin D)
    (hi : i.val = a) (hj : j.val = b + s * q) (hk : k.val = d + l) :
    vw.readCov L ({ off := ![a, b, d], size := ![1, v, 128], stride := ![1, s, 1], inb := inb } : LoadRect (⟨3, ![A, B, D]⟩ : Shape))
      (ix3 0 q l) = View.canon L (ix3 i j k) := by
  rw [View.readCov_eq_canon']
  refine congrArg (View.canon L) (funext fun x => Fin.ext ?_)
  match x with
  | ⟨0, _⟩ => show a + 1 * 0 = i.val; omega
  | ⟨1, _⟩ => show b + s * q.val = j.val; omega
  | ⟨2, _⟩ => show d + 1 * l.val = k.val; omega

variable (arg2 : Memref sig .tc .vmem S1x2048x1024 .f32) (harg2 : arg2.IsWhole)
  (arg3 : Memref sig .tc .vmem S1x1024 .f32) (harg3 : arg3.IsWhole)
  (x0 : FVec Ideal S1x2048x1024 .f32) (x1 : FVec Ideal S1x1024 .f32)

theorem xs_at (k : ℕ) (r : Fin 2048) (l : Fin 128) :
    xs (F := Ideal) arg2 harg2 x0 k (ix3 0 r l) = x0 (ix3 0 r ⟨128 * (k % 8) + l, by omega⟩) := by
  unfold xs
  rw [harg2.readAt_unread]
  refine congrArg x0 (funext fun a => Fin.ext ?_)
  match a with
  | ⟨0, _⟩ => rfl
  | ⟨1, _⟩ => show 0 + 1 * r.val = r.val; omega
  | ⟨2, _⟩ => show 128 * (k % 8) + 1 * l.val = 128 * (k % 8) + l.val; omega

theorem gs_at (k : ℕ) (l : Fin 128) :
    gs (F := Ideal) arg3 harg3 x1 k (ix2 0 l) = x1 (ix2 0 ⟨128 * (k % 8) + l, by omega⟩) := by
  unfold gs
  rw [harg3.readAt_unread]
  refine congrArg x1 (funext fun a => Fin.ext ?_)
  match a with
  | ⟨0, _⟩ => rfl
  | ⟨1, _⟩ => show 128 * (k % 8) + 1 * l.val = 128 * (k % 8) + l.val; omega

/-- A sum over 1024 columns, chunk by chunk. -/
theorem sum_chunks (f : Fin 1024 → EReal) : ∑ k : Fin 1024, f k
    = (∑ l : Fin 128, f ⟨128 * 0 + l, by omega⟩) + (∑ l : Fin 128, f ⟨128 * 1 + l, by omega⟩) + (∑ l : Fin 128, f ⟨128 * 2 + l, by omega⟩)
      + (∑ l : Fin 128, f ⟨128 * 3 + l, by omega⟩) + (∑ l : Fin 128, f ⟨128 * 4 + l, by omega⟩) + (∑ l : Fin 128, f ⟨128 * 5 + l, by omega⟩)
      + (∑ l : Fin 128, f ⟨128 * 6 + l, by omega⟩) + ∑ l : Fin 128, f ⟨128 * 7 + l, by omega⟩ := by
  rw [← (finProdFinEquiv (m := 8) (n := 128)).sum_comp, Fintype.sum_prod_type, Fin.sum_univ_eight]
  have h : ∀ (c : Fin 8) (l : Fin 128), (finProdFinEquiv (c, l) : Fin (8 * 128)) = (⟨128 * c + l, by omega⟩ : Fin 1024) := fun c l =>
    Fin.ext (Nat.add_comm l.val (128 * c.val))
  simp only [h]
  rfl

theorem inv_at (r : Fin 2048) : inv (F := Ideal) arg2 harg2 x0 (ix2 r 0)
    = Ideal.rsqrt (Ideal.div (∑ k : Fin 1024, x0 (ix3 0 r k) * x0 (ix3 0 r k)) (Ideal.ofBits .f32 0x44800000#32)
      + Ideal.ofBits .f32 0x3727C5AC#32) := by
  rw [sum_chunks]
  unfold inv
  pointwise [k0_pay5, k0_pay4, k0_pay3, zero_add, xs_at]

/-- A normed token of the tile. -/
def nrm (r : Fin 2048) (d : Fin 1024) : EReal := rms (fun k => x0 (ix3 0 r k)) (fun k => x1 (ix2 0 k)) d

theorem hc_at (k : ℕ) (r r' : Fin 2048) (l : Fin 128) (d : Fin 1024) (hr : r.val = r'.val) (hd : d.val = 128 * (k % 8) + l) :
    hc (F := Ideal) arg2 harg2 arg3 harg3 x0 x1 k (ix2 r l) = nrm x0 x1 r' d := by
  obtain rfl := Fin.ext hr
  rw [show d = ⟨128 * (k % 8) + l, by omega⟩ from Fin.ext hd]
  unfold hc nrm rms
  pointwise [k0_pay1201, xs_at, gs_at, inv_at]

theorem hc_ext (k k' : ℕ) (r r' : Fin 2048) (l : Fin 128) (hk : k = k') (hr : r.val = r'.val) :
    hc (F := Ideal) arg2 harg2 arg3 harg3 x0 x1 k (ix2 r l) = hc (F := Ideal) arg2 harg2 arg3 harg3 x0 x1 k' (ix2 r' l) := by
  obtain rfl := Fin.ext hr
  rw [hk]

theorem pay1202_at (k : ℕ) (r : Fin 2048) (l : Fin 128) :
    k0_pay1202 (F := Ideal) (inv arg2 harg2 x0) (xs arg2 harg2 x0 k) (gs arg3 harg3 x1 k) (ix3 0 r l)
      = hc (F := Ideal) arg2 harg2 arg3 harg3 x0 x1 k (ix2 r l) := by
  pointwise [k0_pay1202]
  rfl

theorem pay1203_at (v : FVec Ideal S2048x128 .f32) (r : Fin 2048) (l : Fin 128) : k0_pay1203 (F := Ideal) v (ix3 0 r l) = v (ix2 r l) := by
  pointwise [k0_pay1203]

theorem pay1207_at (v : FVec Ideal S1x512x128 .f32) (r : Fin 512) (l : Fin 128) :
    k0_pay1207 (F := Ideal) v (ix3 0 r l) = v (ix3 0 r l) := by
  pointwise [k0_pay1207]

theorem pay2_at (v : FVec Ideal S1x128x128 .f32) (r l : Fin 128) : k0_pay2 (F := Ideal) v (ix3 0 r l) = v (ix3 0 r l) := by
  pointwise [k0_pay2]

theorem rows16_at (k : ℕ) (v : FVec Ideal S2048x128 .f32) (j : Fin 16) (l : Fin 128) :
    rows16 (F := Ideal) k v (ix3 0 j l) = v (ix2 ⟨16 * (k % 128) + j, by omega⟩ l) := by
  unfold rows16
  pointwise

/-- The first output's chunks. -/
theorem out0_at (p : Fin 2048) (d : Fin 1024) : ∀ n ≤ 8, d.val / 128 < n →
    View.canon (out0L (F := Ideal) arg2 harg2 arg3 harg3 x0 x1 n) (ix3 0 p d) = nrm x0 x1 p d
  | 0, _, h => absurd h (by omega)
  | n + 1, hn, h => by
    refine (canon3 (Val := Elt Ideal) (e := .bf16) 0 0 (128 * (n % 8)) 1 2048 128 _ _ _ 0 p d).trans ?_
    by_cases hd : d.val / 128 = n
    · rw [dif_pos ⟨⟨Nat.le_refl 0, by show 0 < 0 + 1; omega⟩, ⟨by omega, by omega⟩, by omega, by omega⟩]
      exact (pay1202_at _ _ _ _ _ _ n _ _).trans (hc_at _ _ _ _ _ _ _ _ _ _ _ (by simp only; omega) (by simp only; omega))
    · rw [dif_neg (by omega)]
      exact out0_at p d n (by omega) (by omega)

/-- A half of the first scratch buffer after its chunk is stored. -/
theorem slab_at (n : ℕ) (i : Fin 2) (r : Fin 2048) (l : Fin 128) (hi : i.val = n % 2) :
    View.canon (slabL (F := Ideal) arg2 harg2 arg3 harg3 x0 x1 (n + 1)) (ix3 i r l)
      = hc (F := Ideal) arg2 harg2 arg3 harg3 x0 x1 n (ix2 r l) := by
  refine (canon3 (Val := Elt Ideal) (e := .f32) (n % 2) 0 0 1 2048 128 _ _ _ i r l).trans ?_
  rw [dif_pos (by omega)]
  refine (congrArg (k0_pay1203 (F := Ideal) _) ?_).trans (pay1203_at _ r l)
  exact congr (congr (congrArg ix3 (Fin.ext (by show i.val - n % 2 = 0; omega))) (Fin.ext (Nat.sub_zero _))) (Fin.ext (Nat.sub_zero _))

/-- The second output's rows: residue by residue. -/
theorem out1_at (arg7 : Memref sig .tc .vmem S2x2048x128 .f32) (p p' : Fin 2048) (d : Fin 1024) (hp : p'.val = 4 * (p.val % 512) + p.val / 512) :
    ∀ n ≤ 32, 4 * (d.val / 128) + p.val / 512 < n →
    View.canon (out1L (F := Ideal) arg2 harg2 arg3 harg3 x0 x1 arg7 n) (ix3 0 p d) = nrm x0 x1 p' d
  | 0, _, h => absurd h (by omega)
  | n + 1, hn, h => by
    refine (canon3 (Val := Elt Ideal) (e := .bf16) 0 (512 * (n % 4)) (128 * (n / 4 % 8)) 1 512 128 _ _ _ 0 p d).trans ?_
    have hq : p.val / 512 < 4 := by omega
    by_cases hd : 4 * (d.val / 128) + p.val / 512 = n
    · have h1 : n / 4 = d.val / 128 := by omega
      have h2 : n % 4 = p.val / 512 := by omega
      have h3 : n / 4 % 8 = d.val / 128 := by omega
      rw [dif_pos ⟨⟨Nat.le_refl 0, by show 0 < 0 + 1; omega⟩, ⟨by omega, by omega⟩, by omega, by omega⟩]
      refine (pay1207_at _ _ _).trans ((readCov3 (Val := Elt Ideal) (e := .f32) arg7.view _ _ _ 512 4 _ _ _ _ ⟨n / 4 % 2, by omega⟩ p'
        ⟨d - 128 * (n / 4 % 8), by omega⟩ rfl (by simp only; omega) (by simp only; omega)).trans ?_)
      exact (slab_at _ _ _ _ _ _ (n / 4) _ _ _ rfl).trans (hc_at _ _ _ _ _ _ _ _ _ _ _ rfl (by simp only; omega))
    · rw [dif_neg fun h' => hd (by
        have h1 : n % 4 = p.val / 512 := by omega
        have h2 : n / 4 % 8 = d.val / 128 := by omega
        omega)]
      exact out1_at arg7 p p' d hp n (by omega) (by omega)

/-- A half of the second scratch buffer while its chunk `c` is stored, sixteen rows at a time. -/
theorem pad_at (c : ℕ) (i : Fin 2) (r : Fin 3072) (r' : Fin 2048) (l : Fin 128) (hi : i.val = c % 2) (hr : r.val % 24 < 16)
    (hr' : r'.val = 16 * (r.val / 24) + r.val % 24) : ∀ n ≤ 128, r.val / 24 < n →
    View.canon (padL (F := Ideal) arg2 harg2 arg3 harg3 x0 x1 (128 * c + n)) (ix3 i r l)
      = hc (F := Ideal) arg2 harg2 arg3 harg3 x0 x1 c (ix2 r' l)
  | 0, _, h => absurd h (by omega)
  | n + 1, hn, h => by
    have h1 : (128 * c + n) / 128 = c := by omega
    have h2 : (128 * c + n) % 128 = n := by omega
    refine (canon3 (Val := Elt Ideal) (e := .f32) ((128 * c + n) / 128 % 2) (24 * ((128 * c + n) % 128)) 0 1 16 128 _ _ _ i r l).trans ?_
    by_cases hd : r.val / 24 = n
    · rw [dif_pos (by omega)]
      refine (congrArg (rows16 (F := Ideal) _ _) (?_ : _ = ix3 0 (⟨r.val % 24, hr⟩ : Fin 16) l)).trans ((rows16_at _ _ _ l).trans ?_)
      · exact congr (congr (congrArg ix3 (Fin.ext (by simp only; omega))) (Fin.ext (by simp only; omega))) (Fin.ext (Nat.sub_zero _))
      · exact hc_ext _ _ _ _ _ _ _ _ _ _ _ h1 (by
          show 16 * ((128 * c + n) % 128 % 128) + r.val % 24 = r'.val; omega)
    · rw [dif_neg (by omega)]
      exact pad_at c i r r' l hi hr hr' n (by omega) (by omega)

/-- The third output's rows: residue by residue. -/
theorem out2_at (arg8 : Memref sig .tc .vmem S2x3072x128 .f32) (p p' : Fin 2048) (d : Fin 1024) (hp : p'.val = 16 * (p.val % 128) + p.val / 128) :
    ∀ n ≤ 128, 16 * (d.val / 128) + p.val / 128 < n →
    View.canon (out2L (F := Ideal) arg2 harg2 arg3 harg3 x0 x1 arg8 n) (ix3 0 p d) = nrm x0 x1 p' d
  | 0, _, h => absurd h (by omega)
  | n + 1, hn, h => by
    refine (canon3 (Val := Elt Ideal) (e := .bf16) 0 (128 * (n % 16)) (128 * (n / 16 % 8)) 1 128 128 _ _ _ 0 p d).trans ?_
    have hq : p.val / 128 < 16 := by omega
    by_cases hd : 16 * (d.val / 128) + p.val / 128 = n
    · have h1 : n / 16 = d.val / 128 := by omega
      have h2 : n % 16 = p.val / 128 := by omega
      have h3 : n / 16 % 8 = d.val / 128 := by omega
      rw [dif_pos ⟨⟨Nat.le_refl 0, by show 0 < 0 + 1; omega⟩, ⟨by omega, by omega⟩, by omega, by omega⟩]
      refine (pay2_at _ _ _).trans ((readCov3 (Val := Elt Ideal) (e := .f32) arg8.view _ _ _ 128 24 _ _ _ _ ⟨n / 16 % 2, by omega⟩
        ⟨24 * (p.val % 128) + p.val / 128, by omega⟩
        ⟨d - 128 * (n / 16 % 8), by omega⟩ rfl (by simp only; omega) (by simp only; omega)).trans ?_)
      have h4 : (24 * (p.val % 128) + p.val / 128) / 24 = p.val % 128 := by omega
      have h5 : (24 * (p.val % 128) + p.val / 128) % 24 = p.val / 128 := by omega
      exact (pad_at _ _ _ _ _ _ (n / 16) _ _ p' _ rfl (by rw [h5]; exact hq) (by rw [h4, h5]; exact hp) 128 (Nat.le_refl _)
        (by rw [h4]; omega)).trans (hc_at _ _ _ _ _ _ _ _ _ _ _ rfl (by simp only; omega))
    · rw [dif_neg fun h' => hd (by
        have h1 : n % 16 = p.val / 128 := by omega
        have h2 : n / 16 % 8 = d.val / 128 := by omega
        omega)]
      exact out2_at arg8 p p' d hp n (by omega) (by omega)

end Cert.StreamsIdeal.Hand
end
-- ==== Proof.Str.Final.lean ====
module

public import proofs.«01_k».proof.Proof.Gen.StreamsRefIdeal.Read
public import proofs.«01_k».proof.Proof.Str.Vals

/-! The norm and reordering of the dilated layer: what the kernel's result arrays hold, and what the reference computes. -/

@[expose] public section

set_option maxRecDepth 16384

noncomputable section

namespace Cert.StreamsSpec

open Idealize.ShloMosaic

/-- The token of the layer's input that stands at position `s` of the stream of dilation `q`, in runs of 2048 tokens that hold the
    `n = 2048 / q` tokens of one residue together. -/
def src (q n s : ℕ) : ℕ := 2048 * (s / 2048) + (q * (s % 2048 % n) + s % 2048 / n)

/-- Feature `d` of the normed token `s` of sequence `b`. -/
def normAt (x : (⟨3, ![8, 8192, 1024]⟩ : Shape).Idx → EReal) (g : (⟨2, ![4, 1024]⟩ : Shape).Idx → EReal) (b : Fin 8) (s : Fin 8192)
    (d : Fin 1024) : EReal :=
  Cert.PoolSpec.rms (fun k => x (ix3 b s k)) (fun k => g (ix2 2 k)) d

theorem src4_lt (s : Fin 8192) : src 4 512 s < 8192 := by unfold src; omega

theorem src16_lt (s : Fin 8192) : src 16 128 s < 8192 := by unfold src; omega

end Cert.StreamsSpec

namespace Cert.StreamsIdeal.Hand

open Cert.StreamsIdeal Cert.StreamsIdeal.Gen Cert.PoolSpec Cert.StreamsSpec Idealize.ShloMosaic Idealize.ShloMosaic.TcCoe Idealize.SL.Sem
open Idealize.ShloMosaic.Pipeline (Dat)

variable (m : (ℓ : Loc nD τ sig) → Buf (Elt Ideal) ℓ)

/-- The windows' index maps at a grid point. -/
theorem idx : ∀ t : Fin cfg0.N, win0_0.index t = ![t.val / 4, t.val % 4, 0] ∧ win0_1.index t = ![0, 0]
    ∧ win0_2.index t = ![t.val / 4, t.val % 4, 0] ∧ win0_3.index t = ![t.val / 4, t.val % 4, 0] ∧ win0_4.index t = ![t.val / 4, t.val % 4, 0]
    ∧ t.val < 32 :=
  (by decide +kernel : ∀ t : Fin grid0.N, _)

theorem blk0 (c : Dev nD) (t : Fin cfg0.N) (r : Fin 2048) (k : Fin 1024) (h : t.val < 32) : iblk m c 0 t (ix3 0 r k)
    = (m ((c : Thread nD τ).loc main_arg0) : FVec Ideal S8x8192x1024 .f32)
      (ix3 ⟨t.val / 4, by omega⟩ ⟨2048 * (t.val % 4) + r, by omega⟩ k) := by
  blk_point [iblk, V, idx t]

theorem blk1 (c : Dev nD) (t : Fin cfg0.N) (k : Fin 1024) : iblk m c 1 t (ix2 0 k)
    = (m ((c : Thread nD τ).loc main_arg1) : FVec Ideal S4x1024 .f32) (ix2 2 k) := by
  blk_point [iblk, V, idx t]

/-- The normed tokens of a tile. -/
theorem nrm_at (c : Dev nD) (t : Fin cfg0.N) (r : Fin 2048) (d : Fin 1024) (b : Fin 8) (s : Fin 8192) (d' : Fin 1024) (h : t.val < 32)
    (hb : t.val / 4 = b.val) (hs : 2048 * (t.val % 4) + r.val = s.val) (hd : d.val = d'.val) :
    nrm (iblk m c 0 t) (iblk m c 1 t) r d = normAt (m ((c : Thread nD τ).loc main_arg0)) (m ((c : Thread nD τ).loc main_arg1)) b s d' := by
  obtain rfl := Fin.ext hd
  rw [← show (⟨t.val / 4, by omega⟩ : Fin 8) = b from Fin.ext hb, ← show (⟨2048 * (t.val % 4) + r, by omega⟩ : Fin 8192) = s from Fin.ext hs]
  exact congr (congr (congrArg rms (funext fun k => blk0 m c t r k h)) (funext fun k => blk1 m c t k)) rfl

/-- What a tile leaves in the three result blocks. -/
theorem block0 (c : Dev nD) (t : Fin cfg0.N) (p : Fin 2048) (d : Fin 1024) :
    (outsAt0 m c t).1 (ix3 0 p d) = nrm (iblk m c 0 t) (iblk m c 1 t) p d := by
  unfold outsAt0 out0_A_2
  dsimp only
  rw [View.read_writes_junk_eq_canon, run0]
  exact out0_at _ _ _ _ _ _ p d 8 (Nat.le_refl _) (by omega)

theorem block1 (c : Dev nD) (t : Fin cfg0.N) (p : Fin 2048) (d : Fin 1024) :
    (outsAt0 m c t).2.1 (ix3 0 p d) = nrm (iblk m c 0 t) (iblk m c 1 t) ⟨4 * (p.val % 512) + p.val / 512, by omega⟩ d := by
  unfold outsAt0 out0_A_3
  dsimp only
  rw [View.read_writes_junk_eq_canon, run1]
  exact out1_at _ _ _ _ _ _ _ p _ d rfl 32 (Nat.le_refl _) (by omega)

theorem block2 (c : Dev nD) (t : Fin cfg0.N) (p : Fin 2048) (d : Fin 1024) :
    (outsAt0 m c t).2.2 (ix3 0 p d) = nrm (iblk m c 0 t) (iblk m c 1 t) ⟨16 * (p.val % 128) + p.val / 128, by omega⟩ d := by
  unfold outsAt0 out0_A_4
  dsimp only
  rw [View.read_writes_junk_eq_canon, run2]
  exact out2_at _ _ _ _ _ _ _ p _ d rfl 128 (Nat.le_refl _) (by omega)

/-- The first result array: the normed tokens in their order. -/
theorem final0 (c : Dev nD) : (dats m 0 c).arrAt 2 cfg0.N = fun i => normAt (m ((c : Thread nD τ).loc main_arg0))
    (m ((c : Thread nD τ).loc main_arg1)) (i 0) (i 1) (i 2) := by
  refine (dats m 0 c).arrAt_eq_of_covers 2 _ (by decide +kernel) fun t hf y => ?_
  have h := (idx t).2.2.2.2.2
  blk_simp
  rw [after0_2, eq_ix3 y]
  rw [show y 0 = (0 : Fin 1) from Subsingleton.elim (α := Fin 1) _ _]
  refine (block0 m c t (y 1) (y 2)).trans (nrm_at m c t _ _ _ _ _ h ?_ ?_ ?_)
  · blk_simp [idx t]
    rfl
  · blk_simp [idx t]
    omega
  · blk_simp [idx t]

/-- The second result array: the stream of dilation 4. -/
theorem final1 (c : Dev nD) : (dats m 0 c).arrAt 3 cfg0.N = fun i => normAt (m ((c : Thread nD τ).loc main_arg0))
    (m ((c : Thread nD τ).loc main_arg1)) (i 0) ⟨src 4 512 (i 1), src4_lt (i 1)⟩ (i 2) := by
  refine (dats m 0 c).arrAt_eq_of_covers 3 _ (by decide +kernel) fun t hf y => ?_
  have h := (idx t).2.2.2.2.2
  blk_simp
  rw [after0_3, eq_ix3 y]
  rw [show y 0 = (0 : Fin 1) from Subsingleton.elim (α := Fin 1) _ _]
  refine (block1 m c t (y 1) (y 2)).trans (nrm_at m c t _ _ _ _ _ h ?_ ?_ ?_)
  · blk_simp [idx t]
    rfl
  · have hp : (y 1).val < 2048 := (y 1).isLt
    blk_simp [idx t]
    show 2048 * (t.val % 4) + (4 * ((y 1).val % 512) + (y 1).val / 512) = src 4 512 (t.val % 4 * 2048 + (y 1).val)
    unfold src
    omega
  · blk_simp [idx t]

/-- The third result array: the stream of dilation 16. -/
theorem final2 (c : Dev nD) : (dats m 0 c).arrAt 4 cfg0.N = fun i => normAt (m ((c : Thread nD τ).loc main_arg0))
    (m ((c : Thread nD τ).loc main_arg1)) (i 0) ⟨src 16 128 (i 1), src16_lt (i 1)⟩ (i 2) := by
  refine (dats m 0 c).arrAt_eq_of_covers 4 _ (by decide +kernel) fun t hf y => ?_
  have h := (idx t).2.2.2.2.2
  blk_simp
  rw [after0_4, eq_ix3 y]
  rw [show y 0 = (0 : Fin 1) from Subsingleton.elim (α := Fin 1) _ _]
  refine (block2 m c t (y 1) (y 2)).trans (nrm_at m c t _ _ _ _ _ h ?_ ?_ ?_)
  · blk_simp [idx t]
    rfl
  · have hp : (y 1).val < 2048 := (y 1).isLt
    blk_simp [idx t]
    show 2048 * (t.val % 4) + (16 * ((y 1).val % 128) + (y 1).val / 128) = src 16 128 (t.val % 4 * 2048 + (y 1).val)
    unfold src
    omega
  · blk_simp [idx t]

end Cert.StreamsIdeal.Hand

namespace Cert.StreamsRefIdeal.Hand

open Cert.StreamsRefIdeal Cert.StreamsRefIdeal.Read Cert.PoolSpec Cert.StreamsSpec Idealize.ShloMosaic

/-- The reference's normed tokens. -/
theorem norm_at (x : FVec Ideal S8x8192x1024 .f32) (g : FVec Ideal S4x1024 .f32) (b : Fin 8) (s : Fin 8192) (d : Fin 1024) :
    val_main_v15 (F := Ideal) x g (ix3 b s d) = normAt x g b s d := by
  unfold normAt
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1,
    rms, zero_add]

theorem stream4_at (x : FVec Ideal S8x8192x1024 .f32) (g : FVec Ideal S4x1024 .f32) (b : Fin 8) (s : Fin 8192) (d : Fin 1024) :
    val_main_v18 (F := Ideal) x g (ix3 b s d) = normAt x g b ⟨src 4 512 s, src4_lt s⟩ d := by
  pointwise [val_main_v18, val_main_v17, val_main_v16, norm_at]
  exact congrArg (normAt x g b · d) (Fin.ext (by unfold src; simp only; omega))

theorem stream16_at (x : FVec Ideal S8x8192x1024 .f32) (g : FVec Ideal S4x1024 .f32) (b : Fin 8) (s : Fin 8192) (d : Fin 1024) :
    val_main_v21 (F := Ideal) x g (ix3 b s d) = normAt x g b ⟨src 16 128 s, src16_lt s⟩ d := by
  pointwise [val_main_v21, val_main_v20, val_main_v19, norm_at]
  exact congrArg (normAt x g b · d) (Fin.ext (by unfold src; simp only; omega))

end Cert.StreamsRefIdeal.Hand
end
-- ==== Proof.First.Spec.lean ====
module

public import proofs.«01_k».proof.Proof.Pool.Spec

/-! The first layer's operands. -/

@[expose] public section

noncomputable section

namespace Cert.PoolSpec

open Idealize.ShloMosaic

/-- The operands of the first layer, which has the same call with other weights: the rows 0 of the weight arrays. -/
def Args.first (x0 : (⟨3, ![8, 8192, 1024]⟩ : Shape).Idx → EReal) (x1 : (⟨2, ![4, 1024]⟩ : Shape).Idx → EReal)
    (x2 : (⟨1, ![1024]⟩ : Shape).Idx → EReal) (x3 : (⟨3, ![4, 2048, 1024]⟩ : Shape).Idx → EReal)
    (x4 : (⟨3, ![2, 1024, 4096]⟩ : Shape).Idx → EReal) (x5 : (⟨4, ![2, 4, 512, 512]⟩ : Shape).Idx → EReal)
    (x6 : (⟨2, ![2, 2048]⟩ : Shape).Idx → EReal) : Args :=
  Args.of x0 (fun i => x1 (ix2 0 (i 1))) x2 (fun i => x3 (ix3 0 (i 1) (i 2))) (fun i => x4 (ix3 0 (i 1) (i 2)))
    (fun i => x5 (ix4 0 (i 1) (i 2) (i 3))) (fun i => x6 (ix2 0 (i 1)))

end Cert.PoolSpec
-- ==== Proof.First.Pay.lean ====
module

public import proofs.«01_k».proof.Proof.Gen.FirstIdeal.Value
public import proofs.«01_k».proof.Proof.Pool.Points

/-! What the first layer's call stores: the values the last layer's call stores, without the final norm. -/

@[expose] public section

set_option maxRecDepth 16384

noncomputable section

namespace Cert.FirstIdeal.Hand

open Cert.FirstIdeal Cert.FirstIdeal.Gen Cert.PoolSpec Idealize.ShloMosaic Idealize.ShloMosaic.TcCoe Idealize.SL.Sem
open Cert.PoolIdeal.Hand (zpay)

section groups
variable (v25 : FVec Ideal S512x4096 .f32) (v34 : IVec S512x1 32) (n : BitVec 32) (x : FVec Ideal S528x512 .f32)
  (wg : FVec Ideal S1x512x512 .bf16) (sc : FVec Ideal S1x512 .f32) (r e : Fin 512)

/-- The four groups of the first sub-block … -/
theorem z0_at : k0_pay9 (F := Ideal) v25 v34 x wg sc (ix2 r e) = zpay 2 x (v34 (ix2 r 0)) wg sc (v25 (ix2 r ⟨2048 + e, by omega⟩)) r e :=
  Cert.PoolIdeal.Hand.z0_at v25 v34 x wg sc r e

theorem z1_at : k0_pay12 (F := Ideal) v25 v34 (k0_pay10 x) (k0_pay11 x) 1#32 wg sc (ix2 r e)
    = zpay 4 x (v34 (ix2 r 0)) wg sc (v25 (ix2 r ⟨2560 + e, by omega⟩)) r e :=
  Cert.PoolIdeal.Hand.z1_at v25 v34 x wg sc r e

theorem z2_at : k0_pay16 (F := Ideal) v25 (k0_pay13 x) (k0_pay14 x) (k0_pay15 v34) wg sc (ix2 r e)
    = zpay 8 x (v34 (ix2 r 0)) wg sc (v25 (ix2 r ⟨3072 + e, by omega⟩)) r e :=
  Cert.PoolIdeal.Hand.z2_at v25 v34 x wg sc r e

theorem z3_at : k0_pay20 (F := Ideal) v25 (k0_pay17 x) (k0_pay18 x) (k0_pay19 v34) wg sc (ix2 r e)
    = zpay 16 x (v34 (ix2 r 0)) wg sc (v25 (ix2 r ⟨3584 + e, by omega⟩)) r e :=
  Cert.PoolIdeal.Hand.z3_at v25 v34 x wg sc r e

/-- … and of the second. -/
theorem y0_at : k0_pay30 (F := Ideal) v25 (k0_pay28 n x) (k0_pay29 wg) (constant S512x512 .f32 0x00000000#32) sc (ix2 r e)
    = zpay 2 x (k0_pay27 n (ix2 r 0)) wg sc (v25 (ix2 r ⟨2048 + e, by omega⟩)) r e :=
  Cert.PoolIdeal.Hand.y0_at v25 (k0_pay27 n) x wg sc r e

theorem y1_at : k0_pay33 (F := Ideal) (k0_pay31 v34 x wg sc) (k0_pay32 v25) (ix2 r e)
    = zpay 4 x (v34 (ix2 r 0)) wg sc (v25 (ix2 r ⟨2560 + e, by omega⟩)) r e :=
  Cert.PoolIdeal.Hand.y1_at v25 v34 x wg sc r e

theorem y2_at : k0_pay37 (F := Ideal) (k0_pay34 v34 x wg sc) (k0_pay35 v25) (k0_pay36 v25) (Scalar.ofBits .f32 0x3F800000#32) (ix2 r e)
    = zpay 8 x (v34 (ix2 r 0)) wg sc (v25 (ix2 r ⟨3072 + e, by omega⟩)) r e :=
  Cert.PoolIdeal.Hand.y2_at v25 v34 x wg sc r e

theorem y3_at : k0_pay1 (F := Ideal) (k0_pay38 v34 x wg sc) (k0_pay39 v25) (k0_pay40 v25) (ix2 r e)
    = zpay 16 x (v34 (ix2 r 0)) wg sc (v25 (ix2 r ⟨3584 + e, by omega⟩)) r e :=
  Cert.PoolIdeal.Hand.y3_at v25 v34 x wg sc r e

end groups

/-- The second sub-block's projection and its pooled half are the last layer's functions. -/
theorem proj1 (x : FVec Ideal S1x512x1024 .f32) (g : FVec Ideal S1x1024 .f32) (w : FVec Ideal S1024x4096 .bf16) :
    k0_pay25 (F := Ideal) (k0_pay22 x) (k0_pay23 g) (k0_pay24 x) w = Cert.PoolIdeal.Gen.k0_pay24 x g w
      ∧ k0_pay26 (F := Ideal) (k0_pay22 x) (k0_pay23 g) (k0_pay24 x) w = Cert.PoolIdeal.Gen.k0_pay25 x g w := ⟨rfl, rfl⟩

/-- Either sub-block's output token is the layer's, where its operands are. -/
theorem res_of (A : Args) (b n : ℕ) (x : FVec Ideal S1x512x1024 .f32) (zb : FVec Ideal S512x2048 .bf16)
    (wo : FVec Ideal S2048x1024 .bf16) (r : Fin 512) (d : Fin 1024)
    (hx : ∀ d, x (ix3 0 r d) = A.x b n d) (hz : ∀ e, zb (ix2 r e) = z A b n e) (hwo : ∀ e d, wo (ix2 e d) = A.wo e d) :
    k0_pay21 (F := Ideal) (k0_pay5 x) zb wo (ix3 0 r d) = res A b n d
      ∧ k0_pay2 (F := Ideal) (k0_pay22 x) zb wo (ix3 0 r d) = res A b n d := by
  have h : x (ix3 0 r d) + ∑ e : Fin 2048, zb (ix2 r e) * wo (ix2 e d) = res A b n d := by
    unfold res
    simp only [hx, hz, hwo]
  rw [← h]
  constructor
  · pointwise [k0_pay21, k0_pay5, zero_add]
  · pointwise [k0_pay2, k0_pay22, zero_add]

end Cert.FirstIdeal.Hand
-- ==== Proof.First.Points.lean ====
module

public import proofs.«01_k».proof.Proof.First.Spec
public import proofs.«01_k».proof.Proof.First.Pay

/-! The first layer's call: its input blocks as the layer's operands, and what each grid point leaves. The call stores the values
    the last layer's call stores but for the final norm, so the lemmas are those of the last layer's call. -/

@[expose] public section

set_option maxRecDepth 16384

noncomputable section

namespace Cert.FirstIdeal.Hand

open Cert.FirstIdeal Cert.FirstIdeal.Gen Cert.PoolSpec Idealize.ShloMosaic Idealize.ShloMosaic.TcCoe Idealize.SL.Sem
open Idealize.ShloMosaic.Pipeline (Dat)
open Cert.PoolIdeal.Hand (Carried Halo Sub tok0 tok1 grp scl sub_of urow rows3 cols4 load2 load3 zgrp haloA haloB eq_of_coords
  read_back pos0_at pos1_at)

variable (m : (ℓ : Loc nD τ sig) → Buf (Elt Ideal) ℓ)

/-- The layer's operands in the launched memory. -/
def args (c : Dev nD) : Args :=
  Args.first (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The windows' index maps at a grid point. -/
theorem idx : ∀ t : Fin cfg0.N, win0_0.index t = ![t.val / 8, t.val % 8, 0] ∧ win0_1.index t = ![0, 0] ∧ win0_2.index t = ![0, 0]
    ∧ win0_3.index t = ![0, 0, 0] ∧ win0_4.index t = ![0, 0] ∧ win0_5.index t = ![0, 0]
    ∧ win0_7.index t = ![t.val / 8, t.val % 8, 0] ∧ t.val / 8 < 8 :=
  (by decide +kernel : ∀ t : Fin grid0.N, _)

theorem blk0 (c : Dev nD) (t : Fin cfg0.N) (r k : Fin 1024) :
    iblk m c 0 t (ix3 0 r k) = (args m c).x (t.val / 8) (1024 * (t.val % 8) + r) k := by
  have h := (idx t).2.2.2.2.2.2.2
  unfold args Args.first Args.of; dsimp only
  rw [dif_pos (show t.val / 8 < 8 ∧ 1024 * (t.val % 8) + r.val < 8192 by omega)]
  blk_ext [iblk, V, idx t]

theorem blk1 (c : Dev nD) (t : Fin cfg0.N) (k : Fin 1024) : iblk m c 1 t (ix2 0 k) = (args m c).g k := by
  unfold args Args.first Args.of; dsimp only
  blk_point [iblk, V, idx t]

theorem blk2 (c : Dev nD) (t : Fin cfg0.N) (k : Fin 1024) (e : Fin 4096) : iblk m c 2 t (ix2 k e) = (args m c).w k e := by
  unfold args Args.first Args.of; dsimp only
  blk_point [iblk, V, idx t]

theorem blk3 (c : Dev nD) (t : Fin cfg0.N) (γ : Fin 4) (k e : Fin 512) : iblk m c 3 t (ix3 γ k e) = (args m c).wg γ k e := by
  unfold args Args.first Args.of; dsimp only
  rw [dif_pos γ.isLt]
  blk_point [iblk, V, idx t]

theorem blk4 (c : Dev nD) (t : Fin cfg0.N) (e : Fin 2048) : iblk m c 4 t (ix2 0 e) = (args m c).sc e := by
  unfold args Args.first Args.of; dsimp only
  blk_point [iblk, V, idx t]

theorem blk5 (c : Dev nD) (t : Fin cfg0.N) (e : Fin 2048) (d : Fin 1024) : iblk m c 5 t (ix2 e d) = (args m c).wo e d := by
  unfold args Args.first Args.of; dsimp only
  blk_point [iblk, V, idx t]

/-- The rows every point carries out. -/
theorem carried (c : Dev nD) : ∀ (n : ℕ) (hn : n < cfg0.N), Carried (args m c) n (outsAt0 m c n hn).2
  | n, hn => by
    intro p e
    have hU0 := fun r e => (urow _ _ _ _ _ _ (tok0 (blk0 m c ⟨n, hn⟩)) (blk1 m c ⟨n, hn⟩) (blk2 m c ⟨n, hn⟩) r e).1
    have hU1 := fun r e => (urow _ _ _ _ _ _ (tok1 (blk0 m c ⟨n, hn⟩)) (blk1 m c ⟨n, hn⟩) (blk2 m c ⟨n, hn⟩) r e).2
    by_cases h : n % 8 = 0
    · rw [outsAt0_A m c ⟨n, hn⟩ h (by simp only; omega)]; frame_out
      exact rows3 (args m c) (n / 8) (1024 * (n % 8)) _ _ _ _ _ _ hU1 hU0 (haloA (args m c) n h) p e
    · have h1 : 1 ≤ n % 8 := by omega
      have ih := carried c (n - 1) (Nat.lt_of_le_of_lt (Nat.sub_le _ _) hn)
      rw [outsAt0_B m c ⟨n, hn⟩ h h1]; frame_out
      generalize (outsAt0 m c (n - 1) _).2 = S at ih ⊢
      rw [read_back]
      exact rows3 (args m c) (n / 8) (1024 * (n % 8)) _ _ _ _ _ _ hU1 hU0 (haloB (args m c) n h1 S ih) p e
termination_by n => n
decreasing_by omega

/-- Every point leaves the layer's output of its positions. -/
theorem out_at (c : Dev nD) (t : Fin cfg0.N) (r d : Fin 1024) :
    (outsAt0 m c t.val t.isLt).1 (ix3 0 r d) = res (args m c) (t.val / 8) (1024 * (t.val % 8) + r) d := by
  have hU0 := fun r e => (urow _ _ _ _ _ _ (tok0 (blk0 m c t)) (blk1 m c t) (blk2 m c t) r e).1
  have hU1 := fun r e => (urow _ _ _ _ _ _ (tok1 (blk0 m c t)) (blk1 m c t) (blk2 m c t) r e).2
  have hs0 := (sub_of (tok0 (blk0 m c t)) (blk1 m c t) (blk2 m c t) (pos0_at t)).1
  have hs1 := (sub_of (tok1 (blk0 m c t)) (blk1 m c t) (blk2 m c t) (pos1_at t)).2
  by_cases h0 : t.val % 8 = 0
  case' pos =>
    rw [outsAt0_A m c t h0 (by omega)]; frame_out
    have hH := haloA (args m c) t.val h0
  case' neg =>
    have h1 : 1 ≤ t.val % 8 := by omega
    have ih := carried m c (t.val - 1) (Nat.lt_of_le_of_lt (Nat.sub_le _ _) t.isLt)
    rw [outsAt0_B m c t h0 h1]; frame_out
    generalize (outsAt0 m c (t.val - 1) _).2 = S at ih ⊢
    rw [read_back]
    have hH := haloB (args m c) t.val h1 S ih
  all_goals
    canon_tiles x h
    · have hr : r.val = 512 + (x 1).val := h1
      rw [eq_of_coords x ⟨r - 512, by omega⟩ d (by simp only; omega) h2.symm]
      have e1 : 1024 * (t.val % 8) + 512 + (r.val - 512) = 1024 * (t.val % 8) + r := by omega
      rw [← e1]
      refine (res_of _ _ _ _ _ _ ⟨r - 512, by omega⟩ _ (tok1 (blk0 m c t) _) (fun e => ?_) (blk5 m c t)).2
      refine (Cert.Mat.readCov_at ..).trans ?_
      refine (cols4 (args m c) (t.val / 8) (1024 * (t.val % 8) + 512) 512 _ _ _ _ _ _ _ _ _
        (fun r e => (y3_at ..).trans (zgrp _ _ _ 3 16 _ rfl rfl hs1 (load3 _ _ _ _ _ _ _ _ _ hU1 hU0 hH 3 _ rfl _)
          (grp (blk3 m c t) 3 (by decide) _) (scl (blk4 m c t) 1536 (by decide) _) r e))
        (fun r e => (y2_at ..).trans (zgrp _ _ _ 2 8 _ rfl rfl hs1 (load3 _ _ _ _ _ _ _ _ _ hU1 hU0 hH 2 _ rfl _)
          (grp (blk3 m c t) 2 (by decide) _) (scl (blk4 m c t) 1024 (by decide) _) r e))
        (fun r e => (y1_at ..).trans (zgrp _ _ _ 1 4 _ rfl rfl hs1 (load3 _ _ _ _ _ _ _ _ _ hU1 hU0 hH 1 _ rfl _)
          (grp (blk3 m c t) 1 (by decide) _) (scl (blk4 m c t) 512 (by decide) _) r e))
        (fun r e => (y0_at ..).trans (zgrp _ _ _ 0 2 _ rfl rfl hs1 (load3 _ _ _ _ _ _ _ _ _ hU1 hU0 hH 0 _ rfl _)
          (grp (blk3 m c t) 0 (by decide) _) (scl (blk4 m c t) 0 (by decide) _) r e)) _ ⟨r - 512, by omega⟩ rfl _).trans ?_
      simp only [Nat.zero_add]
    · have hr : r.val = (x 1).val := h1
      rw [eq_of_coords x ⟨r, by omega⟩ d h1.symm h2.symm]
      refine (res_of _ _ _ _ _ _ _ _ (tok0 (blk0 m c t) _) (fun e => ?_) (blk5 m c t)).1
      refine (Cert.Mat.readCov_at ..).trans ?_
      refine (cols4 (args m c) (t.val / 8) (1024 * (t.val % 8)) 0 _ _ _ _ _ _ _ _ _
        (fun r e => (z3_at ..).trans (zgrp _ _ _ 3 16 _ rfl rfl hs0 (load2 _ _ _ _ _ _ _ hU0 hH 3 _ rfl _)
          (grp (blk3 m c t) 3 (by decide) _) (scl (blk4 m c t) 1536 (by decide) _) r e))
        (fun r e => (z2_at ..).trans (zgrp _ _ _ 2 8 _ rfl rfl hs0 (load2 _ _ _ _ _ _ _ hU0 hH 2 _ rfl _)
          (grp (blk3 m c t) 2 (by decide) _) (scl (blk4 m c t) 1024 (by decide) _) r e))
        (fun r e => (z1_at ..).trans (zgrp _ _ _ 1 4 _ rfl rfl hs0 (load2 _ _ _ _ _ _ _ hU0 hH 1 _ rfl _)
          (grp (blk3 m c t) 1 (by decide) _) (scl (blk4 m c t) 512 (by decide) _) r e))
        (fun r e => (z0_at ..).trans (zgrp _ _ _ 0 2 _ rfl rfl hs0 (load2 _ _ _ _ _ _ _ hU0 hH 0 _ rfl _)
          (grp (blk3 m c t) 0 (by decide) _) (scl (blk4 m c t) 0 (by decide) _) r e)) _ ⟨r, by omega⟩ (by simp only) _).trans ?_
      simp only [Nat.zero_add]

/-- The program's result array. -/
theorem final (c : Dev nD) : (dats m 0 c).arrAt 7 cfg0.N = fun i => res (args m c) (i 0).val (i 1).val (i 2) := by
  refine (dats m 0 c).arrAt_eq_of_covers 7 _ (by decide +kernel) fun t hf y => ?_
  blk_simp
  rw [after0_7, eq_ix3 y]
  have h0 : y 0 = (0 : Fin 1) := Subsingleton.elim (α := Fin 1) _ _
  rw [h0]
  refine (out_at m c t (y 1) (y 2)).trans ?_
  have hd : (((cfg0.win 7).blk t).view.emb (ix3 0 (y 1) (y 2)) 2) = y 2 := by
    refine Fin.ext ?_
    blk_simp [idx t]
  blk_simp [idx t]
  exact congr (congrArg (res _ _) (by omega)) hd.symm

end Cert.FirstIdeal.Hand
-- ==== Proof.First.Ref.lean ====
module

public import proofs.«01_k».proof.Proof.Gen.FirstRefIdeal.Read
public import proofs.«01_k».proof.Proof.First.Spec
public import proofs.«01_k».proof.Proof.Pool.Ref

/-! The first layer's reference: the last layer's lines at the weights' rows 0, without the final norm. -/

@[expose] public section

set_option maxRecDepth 16384

noncomputable section

namespace Cert.FirstRefIdeal.Hand

open Cert.FirstRefIdeal Cert.FirstRefIdeal.Gen Cert.FirstRefIdeal.Read Cert.PoolSpec Idealize.ShloMosaic Idealize.ShloMosaic.TcCoe Idealize.SL.Sem

section stages
variable (x0 : (⟨S8x8192x1024, .f32⟩ : BufTy).Contents (Elt Ideal)) (x1 : (⟨S4x1024, .f32⟩ : BufTy).Contents (Elt Ideal))
  (x2 : (⟨S1024, .f32⟩ : BufTy).Contents (Elt Ideal)) (x3 : (⟨S4x2048x1024, .f32⟩ : BufTy).Contents (Elt Ideal))
  (x4 : (⟨S2x1024x4096, .f32⟩ : BufTy).Contents (Elt Ideal)) (x5 : (⟨S2x4x512x512, .f32⟩ : BufTy).Contents (Elt Ideal))
  (x6 : (⟨S2x2048, .f32⟩ : BufTy).Contents (Elt Ideal))

/-- The weights' rows 0 in every row. -/
def w1 : (⟨S4x1024, .f32⟩ : BufTy).Contents (Elt Ideal) := fun i => x1 (ix2 0 (i 1))
def w3 : (⟨S4x2048x1024, .f32⟩ : BufTy).Contents (Elt Ideal) := fun i => x3 (ix3 0 (i 1) (i 2))
def w4 : (⟨S2x1024x4096, .f32⟩ : BufTy).Contents (Elt Ideal) := fun i => x4 (ix3 0 (i 1) (i 2))
def w5 : (⟨S2x4x512x512, .f32⟩ : BufTy).Contents (Elt Ideal) := fun i => x5 (ix4 0 (i 1) (i 2) (i 3))
def w6 : (⟨S2x2048, .f32⟩ : BufTy).Contents (Elt Ideal) := fun i => x6 (ix2 0 (i 1))

/-- The weights' slices are the last layer's of those. -/
theorem v0_eq : val_main_v0 (F := Ideal) x1 = Cert.PoolRefIdeal.Read.val_main_v0 (w1 x1) := by
  funext i
  pointwise [val_main_v0, Cert.PoolRefIdeal.Read.val_main_v0, w1]

theorem v15_eq : val_main_v15 (F := Ideal) x4 = Cert.PoolRefIdeal.Read.val_main_v15 (w4 x4) := by
  funext i
  pointwise [val_main_v15, Cert.PoolRefIdeal.Read.val_main_v15, w4]

theorem v20_eq : val_main_v20 (F := Ideal) x5 = Cert.PoolRefIdeal.Read.val_main_v20 (w5 x5) := by
  funext i
  pointwise [val_main_v20, Cert.PoolRefIdeal.Read.val_main_v20, w5]

theorem v22_eq : val_main_v22 (F := Ideal) x6 = Cert.PoolRefIdeal.Read.val_main_v22 (w6 x6) := by
  funext i
  pointwise [val_main_v22, Cert.PoolRefIdeal.Read.val_main_v22, w6]

theorem v88_eq : val_main_v88 (F := Ideal) x3 = Cert.PoolRefIdeal.Read.val_main_v88 (w3 x3) := by
  funext i
  pointwise [val_main_v88, Cert.PoolRefIdeal.Read.val_main_v88, w3]

/-- The projection of the normed tokens … -/
theorem v17_eq : val_main_v17 (F := Ideal) x0 x1 x4 = Cert.PoolRefIdeal.Read.val_main_v17 x0 (w1 x1) (w4 x4) := by
  unfold val_main_v17 val_main_v16 val_main_v14 val_main_v13 val_main_v12 val_main_v1
  rw [v0_eq, v15_eq]
  rfl

theorem v24_eq : val_main_v24 (F := Ideal) x0 x1 x4 = Cert.PoolRefIdeal.Read.val_main_v24 x0 (w1 x1) (w4 x4) := by
  unfold val_main_v24 val_main_v18
  rw [v17_eq]
  rfl

/-- … the pooled differences … -/
theorem v79_eq : val_main_v79 (F := Ideal) x0 x1 x4 = Cert.PoolRefIdeal.Read.val_main_v79 x0 (w1 x1) (w4 x4) := by
  unfold val_main_v79 val_main_v78 val_main_v74 val_main_v75 val_main_v76 val_main_v77 val_main_v37 val_main_v49 val_main_v61
    val_main_v73 val_main_v29 val_main_v41 val_main_v53 val_main_v65 val_main_v27 val_main_v39 val_main_v51 val_main_v63
    val_main_v26 val_main_v38 val_main_v50 val_main_v62
  rw [v24_eq]
  rfl

/-- … the gated mixed features … -/
theorem v87_eq : val_main_v87 (F := Ideal) x0 x1 x4 x5 x6
    = Cert.PoolRefIdeal.Read.val_main_v87 x0 (w1 x1) (w4 x4) (w5 x5) (w6 x6) := by
  have h : val_main_v85 (F := Ideal) x0 x1 x4 x5 x6 = Cert.PoolRefIdeal.Read.val_main_v85 x0 (w1 x1) (w4 x4) (w5 x5) (w6 x6) := by
    unfold val_main_v85 val_main_v84 val_main_v83 val_main_v23 val_main_v82 val_main_v81 val_main_v80 val_main_v21
    rw [v79_eq, v20_eq, v22_eq]
    rfl
  have g : val_main_v19 (F := Ideal) x0 x1 x4 = Cert.PoolRefIdeal.Read.val_main_v19 x0 (w1 x1) (w4 x4) := by
    unfold val_main_v19
    rw [v17_eq]
    rfl
  unfold val_main_v87 val_main_v86 val_main_call0_v5 val_main_call0_v3 val_main_call0_v1 val_main_call0_v0
  rw [h, g]
  rfl

/-- … and the output stream. -/
theorem v91_eq : val_main_v91 (F := Ideal) x0 x1 x3 x4 x5 x6
    = Cert.PoolRefIdeal.Read.val_main_v91 x0 (w1 x1) (w3 x3) (w4 x4) (w5 x5) (w6 x6) := by
  unfold val_main_v91 val_main_v90 val_main_v89
  rw [v87_eq, v88_eq]
  rfl

/-- The layer's output stream, as the layer's mathematics. -/
theorem v91_at (b : Fin 8) (n : Fin 8192) (d : Fin 1024) : val_main_v91 (F := Ideal) x0 x1 x3 x4 x5 x6 (ix3 b n d)
    = res (Args.first x0 x1 x2 x3 x4 x5 x6) b n d := by
  rw [v91_eq]
  exact Cert.PoolRefIdeal.Hand.v91_at x0 (w1 x1) x2 (w3 x3) (w4 x4) (w5 x5) (w6 x6) b n d

end stages

end Cert.FirstRefIdeal.Hand
-- ==== Proof.lean ====
module

public import proofs.«01_k».proof.Defs
public import proofs.«01_k».proof.Proof.Gen.Pool.Frame
public import proofs.«01_k».proof.Proof.Gen.PoolIdeal.Value
public import proofs.«01_k».proof.Proof.Gen.PoolRefIdeal.Run
public import proofs.«01_k».proof.Proof.Gen.PoolRefIdeal.Read
public import proofs.«01_k».proof.Proof.Gen.Dil0.Frame
public import proofs.«01_k».proof.Proof.Gen.Dil0Ideal.Value
public import proofs.«01_k».proof.Proof.Gen.Dil0RefIdeal.Run
public import proofs.«01_k».proof.Proof.Gen.Dil0RefIdeal.Read
public import proofs.«01_k».proof.Proof.Gen.Dil1.Frame
public import proofs.«01_k».proof.Proof.Gen.Dil1Ideal.Value
public import proofs.«01_k».proof.Proof.Gen.Dil1RefIdeal.Run
public import proofs.«01_k».proof.Proof.Gen.Dil1RefIdeal.Read
public import proofs.«01_k».proof.Proof.Gen.Dil2.Frame
public import proofs.«01_k».proof.Proof.Gen.Dil2Ideal.Value
public import proofs.«01_k».proof.Proof.Gen.Dil2RefIdeal.Run
public import proofs.«01_k».proof.Proof.Gen.Dil2RefIdeal.Read
public import proofs.«01_k».proof.Proof.Gen.In.Frame
public import proofs.«01_k».proof.Proof.Gen.InIdeal.Value
public import proofs.«01_k».proof.Proof.Gen.InRefIdeal.Run
public import proofs.«01_k».proof.Proof.Gen.InRefIdeal.Read
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Streams.Frame
public import proofs.«01_k».proof.Proof.Gen.StreamsIdeal.Value
public import proofs.«01_k».proof.Proof.Gen.StreamsRefIdeal.Run
public import proofs.«01_k».proof.Proof.Gen.StreamsRefIdeal.Read
public import proofs.«01_k».proof.Proof.Gen.First.Frame
public import proofs.«01_k».proof.Proof.Gen.FirstIdeal.Value
public import proofs.«01_k».proof.Proof.Gen.FirstRefIdeal.Run
public import proofs.«01_k».proof.Proof.Gen.FirstRefIdeal.Read
public import proofs.«01_k».proof.Proof.Pool.Points
public import proofs.«01_k».proof.Proof.Pool.Ref
public import proofs.«01_k».proof.Proof.Lin.Dil0
public import proofs.«01_k».proof.Proof.Lin.Dil1
public import proofs.«01_k».proof.Proof.Lin.Dil2
public import proofs.«01_k».proof.Proof.Lin.In
public import proofs.«01_k».proof.Proof.Lin.Out
public import proofs.«01_k».proof.Proof.Str.Final
public import proofs.«01_k».proof.Proof.First.Points
public import proofs.«01_k».proof.Proof.First.Ref
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_PoolRefIdeal : quiescent_PoolRefIdeal := fun m ρ _ =>
  (θ_run Cert.PoolRefIdeal.defs _ _).mono (fun r h => ⟨fun c => (h c).2, sem_eq_zero_of_no_sems (by decide) r.2⟩)
    (Cert.PoolRefIdeal.Value.run (F := Ideal) m ρ)

theorem algebraic_PoolIdeal_PoolRefIdeal : algebraic_PoolIdeal_PoolRefIdeal := by
  intro m ρ m' ρ' _ hagree
  refine ⟨_, Cert.PoolIdeal.Value.run_blocks (F := Ideal) m ρ, ?_⟩
  refine (θ_run Cert.PoolRefIdeal.defs _ _).mono (fun _ h c => ⟨?_, (h c).2⟩) (Cert.PoolRefIdeal.Value.run (F := Ideal) m' ρ')
  obtain ⟨e0, e1, e2, e3, e4, e5, e6⟩ := hagree c
  rw [(h c).1, Cert.PoolRefIdeal.Read.val_main_v104_eq, e0, e1, e2, e3, e4, e5, e6, Cert.PoolIdeal.Hand.final]
  funext i
  exact (congrArg _ (eq_ix3 i)).trans (Cert.PoolRefIdeal.Hand.v104_at _ _ _ _ _ _ _ (i 0) (i 1) (i 2))

theorem quiescent_Dil0RefIdeal : quiescent_Dil0RefIdeal := fun m ρ _ =>
  (θ_run Cert.Dil0RefIdeal.defs _ _).mono (fun r h => ⟨fun c => (h c).2, sem_eq_zero_of_no_sems (by decide) r.2⟩)
    (Cert.Dil0RefIdeal.Value.run (F := Ideal) m ρ)

theorem algebraic_Dil0Ideal_Dil0RefIdeal : algebraic_Dil0Ideal_Dil0RefIdeal := by
  intro m ρ m' ρ' _ hagree
  refine ⟨_, Cert.Dil0Ideal.Value.run_blocks (F := Ideal) m ρ, ?_⟩
  refine (θ_run Cert.Dil0RefIdeal.defs _ _).mono (fun _ h c => ⟨?_, (h c).2⟩) (Cert.Dil0RefIdeal.Value.run (F := Ideal) m' ρ')
  obtain ⟨e0, e1⟩ := hagree c
  rw [(h c).1, Cert.Dil0RefIdeal.Read.val_main_v14_eq, e0, e1, Cert.Dil0Ideal.Hand.final]
  funext i
  exact (congrArg _ (eq_ix2 i)).trans (Cert.Dil0RefIdeal.Hand.res_at _ _ (i 0) (i 1))

theorem quiescent_Dil1RefIdeal : quiescent_Dil1RefIdeal := fun m ρ _ =>
  (θ_run Cert.Dil1RefIdeal.defs _ _).mono (fun r h => ⟨fun c => (h c).2, sem_eq_zero_of_no_sems (by decide) r.2⟩)
    (Cert.Dil1RefIdeal.Value.run (F := Ideal) m ρ)

theorem algebraic_Dil1Ideal_Dil1RefIdeal : algebraic_Dil1Ideal_Dil1RefIdeal := by
  intro m ρ m' ρ' _ hagree
  refine ⟨_, Cert.Dil1Ideal.Value.run_blocks (F := Ideal) m ρ, ?_⟩
  refine (θ_run Cert.Dil1RefIdeal.defs _ _).mono (fun _ h c => ⟨?_, (h c).2⟩) (Cert.Dil1RefIdeal.Value.run (F := Ideal) m' ρ')
  obtain ⟨e0, e1⟩ := hagree c
  rw [(h c).1, Cert.Dil1RefIdeal.Read.val_main_v12_eq, e0, e1, Cert.Dil1Ideal.Hand.final]
  funext i
  exact (congrArg _ (eq_ix2 i)).trans (Cert.Dil1RefIdeal.Hand.res_at _ _ (i 0) (i 1))

theorem quiescent_Dil2RefIdeal : quiescent_Dil2RefIdeal := fun m ρ _ =>
  (θ_run Cert.Dil2RefIdeal.defs _ _).mono (fun r h => ⟨fun c => (h c).2, sem_eq_zero_of_no_sems (by decide) r.2⟩)
    (Cert.Dil2RefIdeal.Value.run (F := Ideal) m ρ)

theorem algebraic_Dil2Ideal_Dil2RefIdeal : algebraic_Dil2Ideal_Dil2RefIdeal := by
  intro m ρ m' ρ' _ hagree
  refine ⟨_, Cert.Dil2Ideal.Value.run_blocks (F := Ideal) m ρ, ?_⟩
  refine (θ_run Cert.Dil2RefIdeal.defs _ _).mono (fun _ h c => ⟨?_, (h c).2⟩) (Cert.Dil2RefIdeal.Value.run (F := Ideal) m' ρ')
  obtain ⟨e0, e1⟩ := hagree c
  rw [(h c).1, Cert.Dil2RefIdeal.Read.val_main_v12_eq, e0, e1, Cert.Dil2Ideal.Hand.final]
  funext i
  exact (congrArg _ (eq_ix2 i)).trans (Cert.Dil2RefIdeal.Hand.res_at _ _ (i 0) (i 1))

theorem quiescent_InRefIdeal : quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

theorem algebraic_InIdeal_InRefIdeal : algebraic_InIdeal_InRefIdeal := by
  intro m ρ m' ρ' _ hagree
  refine ⟨_, Cert.InIdeal.Value.run_blocks (F := Ideal) m ρ, ?_⟩
  refine (θ_run Cert.InRefIdeal.defs _ _).mono (fun _ h c => ⟨?_, (h c).2⟩) (Cert.InRefIdeal.Value.run (F := Ideal) m' ρ')
  obtain ⟨e0, e1, e2⟩ := hagree c
  rw [(h c).1, Cert.InRefIdeal.Read.val_main_v25_eq, e0, e1, e2, Cert.InIdeal.Hand.final]
  funext i
  exact (congrArg _ (eq_ix2 i)).trans (Cert.InRefIdeal.Hand.res_at _ _ _ (i 0) (i 1))

theorem quiescent_OutRefIdeal : quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem algebraic_OutIdeal_OutRefIdeal : algebraic_OutIdeal_OutRefIdeal := by
  intro m ρ m' ρ' _ hagree
  refine ⟨_, Cert.OutIdeal.Value.run_blocks (F := Ideal) m ρ, ?_⟩
  refine (θ_run Cert.OutRefIdeal.defs _ _).mono (fun _ h c => ⟨?_, (h c).2⟩) (Cert.OutRefIdeal.Value.run (F := Ideal) m' ρ')
  obtain ⟨e0, e1, e2⟩ := hagree c
  rw [(h c).1, Cert.OutRefIdeal.Read.val_main_v5_eq, e0, e1, e2, Cert.OutIdeal.Hand.final]
  funext i
  exact (congrArg _ (eq_ix2 i)).trans (Cert.OutRefIdeal.Hand.res_at _ _ _ (i 0) (i 1))

theorem quiescent_StreamsRefIdeal : quiescent_StreamsRefIdeal := fun m ρ _ =>
  (θ_run Cert.StreamsRefIdeal.defs _ _).mono (fun r h => ⟨fun c => (h c).2.2.2, sem_eq_zero_of_no_sems (by decide) r.2⟩)
    (Cert.StreamsRefIdeal.Value.run (F := Ideal) m ρ)

theorem algebraic_StreamsIdeal_StreamsRefIdeal : algebraic_StreamsIdeal_StreamsRefIdeal := by
  intro m ρ m' ρ' _ hagree
  refine ⟨_, _, _, Cert.StreamsIdeal.Value.run_blocks (F := Ideal) m ρ, ?_⟩
  refine (θ_run Cert.StreamsRefIdeal.defs _ _).mono (fun _ h c => ⟨?_, ?_, ?_, (h c).2.2.2⟩) (Cert.StreamsRefIdeal.Value.run (F := Ideal) m' ρ')
  · obtain ⟨e0, e1⟩ := hagree c
    rw [(h c).1, Cert.StreamsRefIdeal.Read.val_main_v15_eq, e0, e1, Cert.StreamsIdeal.Hand.final0]
    funext i
    exact (congrArg _ (eq_ix3 i)).trans (Cert.StreamsRefIdeal.Hand.norm_at _ _ (i 0) (i 1) (i 2))
  · obtain ⟨e0, e1⟩ := hagree c
    rw [(h c).2.1, Cert.StreamsRefIdeal.Read.val_main_v18_eq, e0, e1, Cert.StreamsIdeal.Hand.final1]
    funext i
    exact (congrArg _ (eq_ix3 i)).trans (Cert.StreamsRefIdeal.Hand.stream4_at _ _ (i 0) (i 1) (i 2))
  · obtain ⟨e0, e1⟩ := hagree c
    rw [(h c).2.2.1, Cert.StreamsRefIdeal.Read.val_main_v21_eq, e0, e1, Cert.StreamsIdeal.Hand.final2]
    funext i
    exact (congrArg _ (eq_ix3 i)).trans (Cert.StreamsRefIdeal.Hand.stream16_at _ _ (i 0) (i 1) (i 2))

theorem quiescent_FirstRefIdeal : quiescent_FirstRefIdeal := fun m ρ _ =>
  (θ_run Cert.FirstRefIdeal.defs _ _).mono (fun r h => ⟨fun c => (h c).2, sem_eq_zero_of_no_sems (by decide) r.2⟩)
    (Cert.FirstRefIdeal.Value.run (F := Ideal) m ρ)

theorem algebraic_FirstIdeal_FirstRefIdeal : algebraic_FirstIdeal_FirstRefIdeal := by
  intro m ρ m' ρ' _ hagree
  refine ⟨_, Cert.FirstIdeal.Value.run_blocks (F := Ideal) m ρ, ?_⟩
  refine (θ_run Cert.FirstRefIdeal.defs _ _).mono (fun _ h c => ⟨?_, (h c).2⟩) (Cert.FirstRefIdeal.Value.run (F := Ideal) m' ρ')
  obtain ⟨e0, e1, e2, e3, e4, e5, e6⟩ := hagree c
  rw [(h c).1, Cert.FirstRefIdeal.Read.val_main_v91_eq, e0, e1, e3, e4, e5, e6, Cert.FirstIdeal.Hand.final]
  funext i
  exact (congrArg _ (eq_ix3 i)).trans (Cert.FirstRefIdeal.Hand.v91_at _ _ _ _ _ _ _ (i 0) (i 1) (i 2))

theorem claim : Cert.Claim := ⟨Cert.Pool.Gen.facts, Cert.PoolIdeal.Gen.facts, Cert.PoolRefIdeal.Gen.facts,
  Cert.Dil0.Gen.facts, Cert.Dil0Ideal.Gen.facts, Cert.Dil0RefIdeal.Gen.facts,
  Cert.Dil1.Gen.facts, Cert.Dil1Ideal.Gen.facts, Cert.Dil1RefIdeal.Gen.facts,
  Cert.Dil2.Gen.facts, Cert.Dil2Ideal.Gen.facts, Cert.Dil2RefIdeal.Gen.facts,
  Cert.In.Gen.facts, Cert.InIdeal.Gen.facts, Cert.InRefIdeal.Gen.facts,
  Cert.Out.Gen.facts, Cert.OutIdeal.Gen.facts, Cert.OutRefIdeal.Gen.facts,
  Cert.Streams.Gen.facts, Cert.StreamsIdeal.Gen.facts, Cert.StreamsRefIdeal.Gen.facts,
  Cert.First.Gen.facts, Cert.FirstIdeal.Gen.facts, Cert.FirstRefIdeal.Gen.facts,
  fun m ρ _ => Cert.Pool.Gen.frame m ρ, fun m ρ _ => Cert.PoolIdeal.Gen.frame m ρ, quiescent_PoolRefIdeal,
  fun m ρ _ => Cert.Dil0.Gen.frame m ρ, fun m ρ _ => Cert.Dil0Ideal.Gen.frame m ρ, quiescent_Dil0RefIdeal,
  fun m ρ _ => Cert.Dil1.Gen.frame m ρ, fun m ρ _ => Cert.Dil1Ideal.Gen.frame m ρ, quiescent_Dil1RefIdeal,
  fun m ρ _ => Cert.Dil2.Gen.frame m ρ, fun m ρ _ => Cert.Dil2Ideal.Gen.frame m ρ, quiescent_Dil2RefIdeal,
  fun m ρ _ => Cert.In.Gen.frame m ρ, fun m ρ _ => Cert.InIdeal.Gen.frame m ρ, quiescent_InRefIdeal,
  fun m ρ _ => Cert.Out.Gen.frame m ρ, fun m ρ _ => Cert.OutIdeal.Gen.frame m ρ, quiescent_OutRefIdeal,
  fun m ρ _ => Cert.Streams.Gen.frame m ρ, fun m ρ _ => Cert.StreamsIdeal.Gen.frame m ρ, quiescent_StreamsRefIdeal,
  fun m ρ _ => Cert.First.Gen.frame m ρ, fun m ρ _ => Cert.FirstIdeal.Gen.frame m ρ, quiescent_FirstRefIdeal,
  (trivial : preserves_Pool_PoolIdeal), algebraic_PoolIdeal_PoolRefIdeal,
  (trivial : preserves_Dil0_Dil0Ideal), algebraic_Dil0Ideal_Dil0RefIdeal,
  (trivial : preserves_Dil1_Dil1Ideal), algebraic_Dil1Ideal_Dil1RefIdeal,
  (trivial : preserves_Dil2_Dil2Ideal), algebraic_Dil2Ideal_Dil2RefIdeal,
  (trivial : preserves_In_InIdeal), algebraic_InIdeal_InRefIdeal,
  (trivial : preserves_Out_OutIdeal), algebraic_OutIdeal_OutRefIdeal,
  (trivial : preserves_Streams_StreamsIdeal), algebraic_StreamsIdeal_StreamsRefIdeal,
  (trivial : preserves_First_FirstIdeal), algebraic_FirstIdeal_FirstRefIdeal⟩

end Cert.Proof

end
